-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 128]⟩ ⟨2, ![128, 256]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 128]⟩ ⟨2, ![128, 256]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S3x2x128x128 : Shape := ⟨4, ![3, 2, 128, 128]⟩
abbrev S12 : Shape := ⟨1, ![12]⟩
abbrev S_ : Shape := ⟨0, ![]⟩
abbrev S1x1x128x128 : Shape := ⟨4, ![1, 1, 128, 128]⟩
abbrev S1 : Shape := ⟨1, ![1]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S3x2x128x128, .bf16⟩
  | .local _ .vmem, ⟨9, _⟩ => ⟨S3x2x128x128, .bf16⟩
  | .local _ .vmem, ⟨10, _⟩ => ⟨S3x2x128x128, .bf16⟩
  | .local _ .vmem, ⟨11, _⟩ => ⟨S3x2x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v29 : BitVec 32 := Scalar.muli v2 c2_i32_27
  let v30 : BitVec 32 := Scalar.addi c0_i32_28 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v31 : BitVec 32 := Scalar.muli v6 c1_i32_29
  let v32 : BitVec 32 := Scalar.addi v30 v31
  v32.toNat
def k0_dev4 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v47 : BitVec 32 := Scalar.muli v2 c2_i32_44
  let v48 : BitVec 32 := Scalar.addi c0_i32_45 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v49 : BitVec 32 := Scalar.muli v6 c1_i32_46
  let v50 : BitVec 32 := Scalar.addi v48 v49
  v50.toNat
def k0_dev5 (d0 : Dev nD) : Nat :=
  let c0_i32_85 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_84 : BitVec 32 := 2#32
  let v84 : BitVec 32 := Scalar.muli v7 c2_i32_84
  let v85 : BitVec 32 := Scalar.addi c0_i32_85 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v86 : BitVec 32 := Scalar.muli v5 c1_i32_86
  let v87 : BitVec 32 := Scalar.addi v85 v86
  v87.toNat
def k0_dev6 (d0 : Dev nD) : Nat :=
  let c0_i32_124 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_123 : BitVec 32 := 2#32
  let v121 : BitVec 32 := Scalar.muli v7 c2_i32_123
  let v122 : BitVec 32 := Scalar.addi c0_i32_124 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v123 : BitVec 32 := Scalar.muli v5 c1_i32_125
  let v124 : BitVec 32 := Scalar.addi v122 v123
  v124.toNat
def k0_dev7 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v178 : BitVec 32 := Scalar.muli v2 c2_i32_186
  let v179 : BitVec 32 := Scalar.addi c0_i32_187 v178
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_188 : BitVec 32 := 1#32
  let v180 : BitVec 32 := Scalar.muli v6 c1_i32_188
  let v181 : BitVec 32 := Scalar.addi v179 v180
  v181.toNat
def k0_dev8 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v196 : BitVec 32 := Scalar.muli v2 c2_i32_203
  let v197 : BitVec 32 := Scalar.addi c0_i32_204 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v198 : BitVec 32 := Scalar.muli v6 c1_i32_205
  let v199 : BitVec 32 := Scalar.addi v197 v198
  v199.toNat
def k0_dev9 (d0 : Dev nD) : Nat :=
  let c0_i32_243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_242 : BitVec 32 := 2#32
  let v233 : BitVec 32 := Scalar.muli v7 c2_i32_242
  let v234 : BitVec 32 := Scalar.addi c0_i32_243 v233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v235 : BitVec 32 := Scalar.muli v5 c1_i32_244
  let v236 : BitVec 32 := Scalar.addi v234 v235
  v236.toNat
def k0_dev10 (d0 : Dev nD) : Nat :=
  let c0_i32_282 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_281 : BitVec 32 := 2#32
  let v270 : BitVec 32 := Scalar.muli v7 c2_i32_281
  let v271 : BitVec 32 := Scalar.addi c0_i32_282 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_283 : BitVec 32 := 1#32
  let v272 : BitVec 32 := Scalar.muli v5 c1_i32_283
  let v273 : BitVec 32 := Scalar.addi v271 v272
  v273.toNat
def k0_dev11 (d0 : Dev nD) : Nat :=
  let c0_i32_344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_343 : BitVec 32 := 2#32
  let v327 : BitVec 32 := Scalar.muli v2 c2_i32_343
  let v328 : BitVec 32 := Scalar.addi c0_i32_344 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_345 : BitVec 32 := 1#32
  let v329 : BitVec 32 := Scalar.muli v6 c1_i32_345
  let v330 : BitVec 32 := Scalar.addi v328 v329
  v330.toNat
def k0_dev12 (d0 : Dev nD) : Nat :=
  let c0_i32_361 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_360 : BitVec 32 := 2#32
  let v345 : BitVec 32 := Scalar.muli v2 c2_i32_360
  let v346 : BitVec 32 := Scalar.addi c0_i32_361 v345
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_362 : BitVec 32 := 1#32
  let v347 : BitVec 32 := Scalar.muli v6 c1_i32_362
  let v348 : BitVec 32 := Scalar.addi v346 v347
  v348.toNat
def k0_dev13 (d0 : Dev nD) : Nat :=
  let c0_i32_400 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_399 : BitVec 32 := 2#32
  let v382 : BitVec 32 := Scalar.muli v7 c2_i32_399
  let v383 : BitVec 32 := Scalar.addi c0_i32_400 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v384 : BitVec 32 := Scalar.muli v5 c1_i32_401
  let v385 : BitVec 32 := Scalar.addi v383 v384
  v385.toNat
def k0_dev14 (d0 : Dev nD) : Nat :=
  let c0_i32_439 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_438 : BitVec 32 := 2#32
  let v419 : BitVec 32 := Scalar.muli v7 c2_i32_438
  let v420 : BitVec 32 := Scalar.addi c0_i32_439 v419
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v421 : BitVec 32 := Scalar.muli v5 c1_i32_440
  let v422 : BitVec 32 := Scalar.addi v420 v421
  v422.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x256 : Shape := ⟨2, ![128, 256]⟩
abbrev S256x512 : Shape := ⟨2, ![256, 512]⟩
abbrev S512x256 : Shape := ⟨2, ![512, 256]⟩
abbrev S128x512 : Shape := ⟨2, ![128, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S128x512, .f32⟩
  | .hbm, ⟨8, _⟩ => ⟨S_, .f32⟩
  | .hbm, ⟨9, _⟩ => ⟨S128x512, .f32⟩
  | .hbm, ⟨10, _⟩ => ⟨S128x512, .f32⟩
  | .hbm, ⟨11, _⟩ => ⟨S128x256, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x256, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mesh.lean ====
/-
# The mesh and what the devices share

Four devices in a square: device `2x + y` stands at `(x, y)`. Each talks to two others, the one that differs in `y` and
the one that differs in `x`. Twelve messages leave every device, numbered as the kernel numbers its semaphores: layer
`k`'s are `4k`, `4k + 1` (the two column chunks of the first product, along `y`) and `4k + 2`, `4k + 3` (the two partial
results of the second product, along `x`). Message `i` goes from slot `(i / 4, i % 2)` of a send buffer to the same slot of
the matching receive buffer.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-! ## Neighbours -/

/-- The device of the same `x` and the other `y`. -/
def yn (c : Dev nD) : Dev nD := match c with | 0 => 1 | 1 => 0 | 2 => 3 | 3 => 2
/-- The device of the same `y` and the other `x`. -/
def xn (c : Dev nD) : Dev nD := match c with | 0 => 2 | 1 => 3 | 2 => 0 | 3 => 1

theorem yn_yn (c : Dev nD) : yn (yn c) = c := by revert c; decide
theorem xn_xn (c : Dev nD) : xn (xn c) = c := by revert c; decide

/-- Whether message `i` goes along `y`. -/
abbrev AlongY (i : Fin 12) : Prop := i.val % 4 < 2

/-- Where message `i` goes, and (the neighbour relation being symmetric) where device `c`'s message `i` comes from. -/
def peer (i : Fin 12) (c : Dev nD) : Dev nD := if AlongY i then yn c else xn c

theorem peer_peer (i : Fin 12) (c : Dev nD) : peer i (peer i c) = c := by
  unfold peer; split
  · exact yn_yn c
  · exact xn_xn c

/-! ## Slots and semaphores -/

theorem slot_inb (i : Fin 12) : ∀ a, (![i.val / 4, i.val % 2, 0, 0] : Fin 4 → Nat) a + S1x1x128x128.size a ≤ S3x2x128x128.size a := by
  revert i; decide
/-- Message `i`'s slot in its buffers. -/
abbrev slotR (i : Fin 12) : Rect S3x2x128x128 := Rect.unit (s := S3x2x128x128) ![i.val / 4, i.val % 2, 0, 0] S1x1x128x128.size (slot_inb i)

theorem slot_words (i : Fin 12) : (slotR i).WholeWords (EltTy.packing .bf16) := by revert i; decide
theorem slot_packed (i : Fin 12) : (slotR i).PackedRows (EltTy.packing .bf16) := by revert i; decide

/-- The buffer that message `i` is sent from; -/
def srcM (i : Fin 12) : Memref sig .tc .vmem S3x2x128x128 .bf16 := if AlongY i then Memref.whole cc0_scratch0 else Memref.whole cc0_scratch2
/-- the buffer that it is received in. -/
def dstM (i : Fin 12) : Memref sig .tc .vmem S3x2x128x128 .bf16 := if AlongY i then Memref.whole cc0_scratch1 else Memref.whole cc0_scratch3

theorem srcM_whole (i : Fin 12) : (srcM i).IsWhole := by unfold srcM; split <;> exact Memref.isWhole_whole _
theorem dstM_whole (i : Fin 12) : (dstM i).IsWhole := by unfold dstM; split <;> exact Memref.isWhole_whole _

/-- A slot of a buffer, as a matrix. -/
def part (M : Memref sig .tc .vmem S3x2x128x128 .bf16) (i : Fin 12) : Memref sig .tc .vmem S128x128 .bf16 :=
  (M.slice (slotR i) (fun _ => rfl)).squeeze S128x128 squeezes_S1x1x128x128_S128x128

theorem part_wordExact {M : Memref sig .tc .vmem S3x2x128x128 .bf16} (hM : M.IsWhole) (i : Fin 12) : (part M i).view.WordExact :=
  (hM.wordExact_slice rfl _ (slot_words i)).reshape _ _

theorem part_dst_remote (i : Fin 12) : (part (dstM i) i).view.ref.isScScratch = false := by
  unfold part dstM; split <;> rfl

theorem sem_inb (i : Fin 12) : ∀ a, (![i.val] : Fin 1 → Nat) a + S1.size a ≤ S12.size a := by revert i; decide
/-- The semaphore that tells device `c` that its message `i` has left; -/
def sendS (i : Fin 12) : DmaSem sig := ((cc0_scratch4.slice (Rect.unit (s := S12) ![i.val] S1.size (sem_inb i))).squeeze S_ squeezes_S1_S_).sem
/-- the one that tells it that the message `i` for it has come. -/
def recvS (i : Fin 12) : DmaSem sig := ((cc0_scratch5.slice (Rect.unit (s := S12) ![i.val] S1.size (sem_inb i))).squeeze S_ squeezes_S1_S_).sem
/-- The semaphore of the handshake at the start. -/
abbrev barS : Sem sig := (SemArray.scalar (sig.barrier 0 rfl) : Sems sig S_).sem

/-- Whole buffers that a body is handed. -/
abbrev xM : Memref sig .tc .vmem S128x128 .f32 := Memref.whole cc0_stg0_0
abbrev outM : Memref sig .tc .vmem S128x128 .f32 := Memref.whole cc0_stg7_0
def winM : Fin 3 → Memref sig .tc .vmem S128x256 .f32 := fun | 0 => Memref.whole cc0_stg1_0 | 1 => Memref.whole cc0_stg3_0 | 2 => Memref.whole cc0_stg5_0
def woutM : Fin 3 → Memref sig .tc .vmem S256x128 .f32 := fun | 0 => Memref.whole cc0_stg2_0 | 1 => Memref.whole cc0_stg4_0 | 2 => Memref.whole cc0_stg6_0

end Cert.KernelIdealProof

end
-- ==== Proof.Stages.lean ====
/-
# The kernel in three equal layers

The printed body is one long sequence. Here it is written as a handshake, three layers that differ only in the layer's
number, and twelve waits at the end; `body_eq` says that the two are the same program.
-/
module

public import proofs.«01_k».proof.Proof.Mesh

@[expose] public section

noncomputable section

namespace Cert.KernelIdealProof

open Cert.KernelIdeal Cert.KernelIdeal.Gen
open Idealize.ShloMosaic Idealize.SL.Sem

variable {F : FTy → Type} [FloatOps F]

abbrev Body (F : FTy → Type) (α : Type) := Prog (TpuEff nD τ sig (Elt F) Λ₀ .tc) α

/-! ## What is computed -/

/-- A matrix as the contents of a slot, rounded to the narrow format; -/
def toSlot (v : FVec F S128x128 .f32) : Vec F S1x1x128x128 .bf16 :=
  shapeCast S1x1x128x128 (truncf .bf16 v bitsLt_bf16_f32) shapeCasts_S128x128_S1x1x128x128
/-- the contents of a slot as a matrix. -/
def ofSlot (v : Vec F S1x1x128x128 .bf16) : FVec F S128x128 .f32 :=
  extf .f32 (shapeCast S128x128 v shapeCasts_S1x1x128x128_S128x128) bitsLt_bf16_f32

/-- Product of two square matrices. -/
def mm (a b : FVec F S128x128 .f32) : FVec F S128x128 .f32 :=
  matmul dot_S128x128_S128x128_S128x128_1_0_0_1_n_n none a b (constant S128x128 .f32 0x00000000#32)

/-- The left and the right half of the columns; -/
def cols : Fin 2 → FVec F S128x256 .f32 → FVec F S128x128 .f32
  | 0 => fun w => extractStridedSlice S128x128 ![0, 0] w slices_S128x256_o0_0_S128x128
  | 1 => fun w => extractStridedSlice S128x128 ![0, 128] w slices_S128x256_o0_128_S128x128
/-- the upper and the lower half of the rows. -/
def rows : Fin 2 → FVec F S256x128 .f32 → FVec F S128x128 .f32
  | 0 => fun w => extractStridedSlice S128x128 ![0, 0] w slices_S256x128_o0_0_S128x128
  | 1 => fun w => extractStridedSlice S128x128 ![128, 0] w slices_S256x128_o128_0_S128x128

def relu (v : FVec F S128x128 .f32) : FVec F S128x128 .f32 :=
  maximumf v (broadcast S128x128 (Scalar.ofBits .f32 0x00000000#32))

/-- The activations and the two weight blocks as loaded. -/
def ldX (v : Vec F S128x128 .f32) : FVec F S128x128 .f32 := shapeCast S128x128 v shapeCasts_S128x128_S128x128
def ldIn (v : Vec F S128x256 .f32) : FVec F S128x256 .f32 := shapeCast S128x256 v shapeCasts_S128x256_S128x256
def ldOut (v : Vec F S256x128 .f32) : FVec F S256x128 .f32 := shapeCast S256x128 v shapeCasts_S256x128_S256x128

/-- Chunk `e` of the first product: this device's part of the sum. -/
def up (e : Fin 2) (x : FVec F S128x128 .f32) (win : FVec F S128x256 .f32) : Vec F S1x1x128x128 .bf16 := toSlot (mm x (cols e win))
/-- Chunk `e` of the second product from both parts `a`, `b` of the first: this device's part of the sum. -/
def down (e : Fin 2) (wout : FVec F S256x128 .f32) (a b : Vec F S1x1x128x128 .bf16) : Vec F S1x1x128x128 .bf16 :=
  toSlot (mm (relu (addf (ofSlot a) (ofSlot b))) (rows e wout))
/-- The next activations: this device's two chunks and its neighbour's two. -/
def gather (p₀ p₁ q₀ q₁ : Vec F S1x1x128x128 .bf16) : FVec F S128x128 .f32 :=
  addf (addf (ofSlot p₀) (ofSlot p₁)) (addf (ofSlot q₀) (ofSlot q₁))

/-! ## The steps -/

/-- Load a slot of a buffer. -/
def loadSlot (M : Memref sig .tc .vmem S3x2x128x128 .bf16) (i : Fin 12) : Body F (Vec F S1x1x128x128 .bf16) :=
  Prog.lift (.load M (slotR i).toLoadRect (View.loadsAt_vmem h_S1x1x128x128))

/-- Load message `i`'s slot (the value is dropped) and store `w` in it; -/
def put (i : Fin 12) (w : Vec F S1x1x128x128 .bf16) : Body F PUnit := do
  let _ ← loadSlot (srcM i) i
  Prog.lift (.store (srcM i) (slotR i) w Finset.univ
    (View.stores_vmem h_S1x1x128x128 ((srcM_whole i).storeExact_slice rfl _ (slot_packed i)) (fun _ => rfl)) (.inl rfl))

/-- send the slot to device `n`; -/
def send (i : Fin 12) (n : Dev nD) : Body F PUnit :=
  Prog.lift (.enqueueDma (part (srcM i) i) (.remote (Dev.tc n) (part (dstM i) i) (.dma (sendS i)) (part_dst_remote i)) (.dma (recvS i))
    (part_wordExact (srcM_whole i) i) (part_wordExact (dstM_whole i) i) ⟨⟨rfl, Or.inl rfl⟩, trivial⟩)

/-- wait until the message for this device has come; -/
def await (i : Fin 12) : Body F PUnit :=
  Prog.lift (.waitDma2 (recvS i) (part (srcM i) i) (part (dstM i) i) (part_wordExact (srcM_whole i) i) (part_wordExact (dstM_whole i) i))

/-- wait until this device's message has left. -/
def flush (i : Fin 12) : Body F PUnit :=
  Prog.lift (.waitDma2 (sendS i) (part (dstM i) i) (part (srcM i) i) (part_wordExact (dstM_whole i) i) (part_wordExact (srcM_whole i) i))

/-- Message number `4k + j`. -/
abbrev msgIx (k : Fin 3) (j : Fin 4) : Fin 12 := ⟨4 * k.val + j.val, by omega⟩

/-- One layer: both chunks of the first product out, then per chunk the neighbour's part in and the second product out,
    then the neighbour's two parts of the second product in and the sum. The destinations are the messages'. -/
def layer (k : Fin 3) (n₀ n₁ n₂ n₃ : Dev nD) (x : FVec F S128x128 .f32) (win : FVec F S128x256 .f32) (wout : FVec F S256x128 .f32) :
    Body F (FVec F S128x128 .f32) := do
  put (msgIx k 0) (up 0 x win)
  send (msgIx k 0) n₀
  put (msgIx k 1) (up 1 x win)
  send (msgIx k 1) n₁
  await (msgIx k 0)
  let a₀ ← loadSlot (srcM (msgIx k 0)) (msgIx k 0)
  let b₀ ← loadSlot (dstM (msgIx k 0)) (msgIx k 0)
  put (msgIx k 2) (down 0 wout a₀ b₀)
  send (msgIx k 2) n₂
  await (msgIx k 1)
  let a₁ ← loadSlot (srcM (msgIx k 1)) (msgIx k 1)
  let b₁ ← loadSlot (dstM (msgIx k 1)) (msgIx k 1)
  put (msgIx k 3) (down 1 wout a₁ b₁)
  send (msgIx k 3) n₃
  await (msgIx k 2)
  await (msgIx k 3)
  let p₀ ← loadSlot (srcM (msgIx k 2)) (msgIx k 2)
  let p₁ ← loadSlot (srcM (msgIx k 3)) (msgIx k 3)
  let q₀ ← loadSlot (dstM (msgIx k 2)) (msgIx k 2)
  let q₁ ← loadSlot (dstM (msgIx k 3)) (msgIx k 3)
  pure (gather p₀ p₁ q₀ q₁)

def loadX : Body F (FVec F S128x128 .f32) := do
  let v ← Prog.lift (.load xM (Rect.unit (s := S128x128) ![0, 0] S128x128.size inb_S128x128_S128x128_0_0).toLoadRect (View.loadsAt_vmem h_S128x128))
  pure (ldX v)
def loadIn (k : Fin 3) : Body F (FVec F S128x256 .f32) := do
  let v ← Prog.lift (.load (winM k) (Rect.unit (s := S128x256) ![0, 0] S128x256.size inb_S128x256_S128x256_0_0).toLoadRect (View.loadsAt_vmem h_S128x256))
  pure (ldIn v)
def loadOut (k : Fin 3) : Body F (FVec F S256x128 .f32) := do
  let v ← Prog.lift (.load (woutM k) (Rect.unit (s := S256x128) ![0, 0] S256x128.size inb_S256x128_S256x128_0_0).toLoadRect (View.loadsAt_vmem h_S256x128))
  pure (ldOut v)

/-- The weights and the layer. -/
def stage (k : Fin 3) (n₀ n₁ n₂ n₃ : Dev nD) (x : FVec F S128x128 .f32) : Body F (FVec F S128x128 .f32) := do
  let win ← loadIn k
  let wout ← loadOut k
  layer k n₀ n₁ n₂ n₃ x win wout

def finish (x : FVec F S128x128 .f32) : Body F PUnit := do
  let _ ← Prog.lift (.load outM (Rect.unit (s := S128x128) ![0, 0] S128x128.size inb_S128x128_S128x128_0_0).toLoadRect (View.loadsAt_vmem h_S128x128))
  Prog.lift (.store outM (Rect.unit (s := S128x128) ![0, 0] S128x128.size inb_S128x128_S128x128_0_0) x Finset.univ (View.stores_vmem h_S128x128 ((Memref.isWhole_whole _).storeExact_slice rfl _ (by decide)) (fun _ => rfl)) (.inl rfl))

/-- The whole body: `n` gives the destinations in program order, the handshake's two first. -/
def whole (n : Dev nD → Fin 14 → Dev nD) : Body F PUnit := do
  let c ← Prog.lift .deviceId
  semSignalWord (n c 0) barS 1#32
  semSignalWord (n c 1) barS 1#32
  semWaitWord barS 2#32
  let x₀ ← loadX
  let x₁ ← stage 0 (n c 2) (n c 3) (n c 4) (n c 5) x₀
  let x₂ ← stage 1 (n c 6) (n c 7) (n c 8) (n c 9) x₁
  let x₃ ← stage 2 (n c 10) (n c 11) (n c 12) (n c 13) x₂
  finish x₃
  flush 0; flush 1; flush 2; flush 3
  flush 4; flush 5; flush 6; flush 7
  flush 8; flush 9; flush 10; flush 11

/-- The destinations as the body computes them from its device's number. -/
def dests (c : Dev nD) : Fin 14 → Dev nD
  | 0 => ⟨k0_dev1 c, k0_dev1_lt c⟩ | 1 => ⟨k0_dev2 c, k0_dev2_lt c⟩
  | 2 => ⟨k0_dev3 c, k0_dev3_lt c⟩ | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩ | 9 => ⟨k0_dev10 c, k0_dev10_lt c⟩
  | 10 => ⟨k0_dev11 c, k0_dev11_lt c⟩ | 11 => ⟨k0_dev12 c, k0_dev12_lt c⟩ | 12 => ⟨k0_dev13 c, k0_dev13_lt c⟩ | 13 => ⟨k0_dev14 c, k0_dev14_lt c⟩

/-- The body on the buffers that a launch hands it. -/
abbrev body₀ : Body F PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5

set_option maxRecDepth 65536 in
theorem body_eq : body₀ (F := F) = whole dests := by
  unfold body₀
  rw [cc0_body_eq_skeleton]
  rfl

end Cert.KernelIdealProof

end
-- ==== Proof.Messages.lean ====
/-
# What every message holds

From the activations and the weight blocks that the devices start with, layer by layer: the twelve messages of every device
and the activations after the last layer. Nothing here speaks of buffers or of time.
-/
module

public import proofs.«01_k».proof.Proof.Stages

@[expose] public section

noncomputable section

namespace Cert.KernelIdealProof

open Cert.KernelIdeal Cert.KernelIdeal.Gen
open Idealize.ShloMosaic Idealize.SL.Sem

variable {F : FTy → Type} [FloatOps F]

/-- The contents of a slot. -/
abbrev SlotVal (F : FTy → Type) := Vec F S1x1x128x128 .bf16

/-- What the devices start with: activations, and per layer the two weight blocks. -/
structure Start (F : FTy → Type) where
  x : Dev nD → FVec F S128x128 .f32
  win : Fin 3 → Dev nD → FVec F S128x256 .f32
  wout : Fin 3 → Dev nD → FVec F S256x128 .f32

variable (I : Start F)

/-- Device `c`'s part of chunk `e` of layer `k`'s first product, the activations being `a`; -/
def upOf (k : Fin 3) (e : Fin 2) (a : Dev nD → FVec F S128x128 .f32) (c : Dev nD) : SlotVal F := up e (a c) (I.win k c)
/-- of its second product; -/
def downOf (k : Fin 3) (e : Fin 2) (a : Dev nD → FVec F S128x128 .f32) (c : Dev nD) : SlotVal F :=
  down e (I.wout k c) (upOf I k e a c) (upOf I k e a (yn c))
/-- and the activations after the layer. -/
def after (k : Fin 3) (a : Dev nD → FVec F S128x128 .f32) (c : Dev nD) : FVec F S128x128 .f32 :=
  gather (downOf I k 0 a c) (downOf I k 1 a c) (downOf I k 0 a (xn c)) (downOf I k 1 a (xn c))

/-- The activations that layer `k` starts from, and those after the last. -/
def act : Fin 3 → Dev nD → FVec F S128x128 .f32
  | 0 => I.x
  | 1 => after I 0 I.x
  | 2 => after I 1 (after I 0 I.x)
def result : Dev nD → FVec F S128x128 .f32 := after I 2 (act I 2)

/-- Message `i` of device `c`. -/
def msg (c : Dev nD) (i : Fin 12) : SlotVal F :=
  if AlongY i then upOf I ⟨i.val / 4, by omega⟩ ⟨i.val % 2, by omega⟩ (act I ⟨i.val / 4, by omega⟩) c
  else downOf I ⟨i.val / 4, by omega⟩ ⟨i.val % 2, by omega⟩ (act I ⟨i.val / 4, by omega⟩) c

theorem msg_0 (k : Fin 3) (c : Dev nD) : msg I c (msgIx k 0) = upOf I k 0 (act I k) c := match k with | 0 => rfl | 1 => rfl | 2 => rfl
theorem msg_1 (k : Fin 3) (c : Dev nD) : msg I c (msgIx k 1) = upOf I k 1 (act I k) c := match k with | 0 => rfl | 1 => rfl | 2 => rfl
theorem msg_2 (k : Fin 3) (c : Dev nD) : msg I c (msgIx k 2) = downOf I k 0 (act I k) c := match k with | 0 => rfl | 1 => rfl | 2 => rfl
theorem msg_3 (k : Fin 3) (c : Dev nD) : msg I c (msgIx k 3) = downOf I k 1 (act I k) c := match k with | 0 => rfl | 1 => rfl | 2 => rfl

theorem peer_0 (k : Fin 3) (c : Dev nD) : peer (msgIx k 0) c = yn c := match k with | 0 => rfl | 1 => rfl | 2 => rfl
theorem peer_1 (k : Fin 3) (c : Dev nD) : peer (msgIx k 1) c = yn c := match k with | 0 => rfl | 1 => rfl | 2 => rfl
theorem peer_2 (k : Fin 3) (c : Dev nD) : peer (msgIx k 2) c = xn c := match k with | 0 => rfl | 1 => rfl | 2 => rfl
theorem peer_3 (k : Fin 3) (c : Dev nD) : peer (msgIx k 3) c = xn c := match k with | 0 => rfl | 1 => rfl | 2 => rfl

end Cert.KernelIdealProof

end
-- ==== Proof.Protocol.lean ====
/-
# The schedule: who waits, who pays, what a landing hands over

Semaphores of device `c`, all used for one round:

* the barrier cell: `c` waits for two units; one comes from `yn c` and hands over `yn c`'s slots for the six messages along
  `y`, the other from `xn c` and hands over `xn c`'s slots for the six along `x`, whatever they hold;
* the send cell of message `i`: `c` waits for one transfer's credit, which its own message `i` pays when it has left; it
  hands back the half share of the source slot that the transfer held, with message `i` of `c` in it;
* the receive cell of message `i`: `c` waits for one transfer's credit, which message `i` of `peer i c` pays when it has
  landed; it hands over `c`'s landing slot holding that message.

Every device sends its messages in the order of their numbers, waits for message `i` only after having sent its own `i`,
and waits for the departures at the end. So with the barrier at level 1 and receive cell `i` at level `2 + i`, a device that
waits owes only cells of a higher level.
-/
module

public import proofs.«01_k».proof.Proof.Messages
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barCell (c : Dev nD) : GSem nD τ sig := ((c : Thread nD τ), .reg barS)
abbrev sendCell (c : Dev nD) (i : Fin 12) : GSem nD τ sig := ((c : Thread nD τ), .dma (sendS i))
abbrev recvCell (c : Dev nD) (i : Fin 12) : GSem nD τ sig := ((c : Thread nD τ), .dma (recvS i))

theorem sendS_val (i : Fin 12) : (sendS i).val = 8 + i.val := by revert i; decide
theorem recvS_val (i : Fin 12) : (recvS i).val = 20 + i.val := by revert i; decide
theorem sendS_inj {i j : Fin 12} (h : sendS i = sendS j) : i = j := by
  have := congrArg (fun s : DmaSem sig => s.val) h; simp only [sendS_val] at this; exact Fin.ext (by omega)
theorem recvS_inj {i j : Fin 12} (h : recvS i = recvS j) : i = j := by
  have := congrArg (fun s : DmaSem sig => s.val) h; simp only [recvS_val] at this; exact Fin.ext (by omega)
theorem sendS_ne_recvS (i j : Fin 12) : sendS i ≠ recvS j := fun h => by
  have := congrArg (fun s : DmaSem sig => s.val) h; simp only [sendS_val, recvS_val] at this; omega

/-- The credit of one transfer. -/
def N : ℕ := (part (dstM 0) 0).view.dmaCredit
theorem N_pos : 0 < N := View.dmaCredit_pos _ (by decide)
theorem credit_eq (i : Fin 12) : (part (dstM i) i).view.dmaCredit = N := by
  unfold N part dstM; split <;> rfl
theorem credit_src_eq (i : Fin 12) : (part (srcM i) i).view.dmaCredit = N := by
  unfold N part srcM; split <;> rfl

/-- Slot `i` of buffer `M` on device `c`, a share `q` of it, holding `v`. -/
def slot (c : Dev nD) (M : Memref sig .tc .vmem S3x2x128x128 .bf16) (i : Fin 12) (q : PosShare TreeShare) (v : SlotVal F) : sProp 𝕄 :=
  iprop(∃ f : Buf (Elt F) ((M.access (slotR i)).loc (c : Thread nD τ)), ⌜(M.access (slotR i)).read (Elt F) f = v⌝
    ∗ ((M.access (slotR i)).loc (c : Thread nD τ) ↦[(M.access (slotR i)).set]{q} f))

instance slot_storable (c : Dev nD) (M) (i) (q) (v) : BI.Storable (upEmb : UEmb _ 𝕄) (slot (F := F) c M i q v) := by unfold slot; infer_instance

/-- The slot for message `i` that device `c` lends to its sender. -/
def landing (c : Dev nD) (i : Fin 12) : sProp 𝕄 := iprop(∃ v, slot c (dstM i) i fullShare v)
/-- The slot that device `c` fills and sends. -/
def source (c : Dev nD) (i : Fin 12) : sProp 𝕄 := iprop(∃ v, slot c (srcM i) i fullShare v)

instance landing_storable (c : Dev nD) (i) : BI.Storable (upEmb : UEmb _ 𝕄) (landing (F := F) c i) := by unfold landing; infer_instance

/-! ## The schedule -/

variable (V : Dev nD → Fin 12 → SlotVal F)

/-- The messages along `y` (for `false`) or along `x` (for `true`). -/
def side (b : Bool) : Finset (Fin 12) := if b then Finset.univ.filter (fun i => ¬ AlongY i) else Finset.univ.filter (fun i => AlongY i)

def barPay (c : Dev nD) (b : Bool) : sProp 𝕄 := bigSep (side b) fun i => landing (peer i c) i
def sendPay (c : Dev nD) (i : Fin 12) : sProp 𝕄 := slot c (srcM i) i fullShare.left (V c i)
def recvPay (c : Dev nD) (i : Fin 12) : sProp 𝕄 := slot c (dstM i) i fullShare (V (peer i c) i)

abbrev IsBar (s : SemLoc sig) : Prop := s = .reg barS
abbrev IsSend (s : SemLoc sig) : Prop := ∃ i, s = .dma (sendS i)
abbrev IsRecv (s : SemLoc sig) : Prop := ∃ i, s = .dma (recvS i)

open Classical in
/-- One round on every cell: two duties of one unit on a barrier cell, one duty of a transfer's credit on the others. -/
def sched : Rounds.Schedule (GSem nD τ sig) Bool 𝕄 where
  duties g r := if r = 0 ∧ g.1.2 = .tc then (if IsBar g.2 then Finset.univ else if IsSend g.2 ∨ IsRecv g.2 then {false} else ∅) else ∅
  unitless _ := False
  amount g _ _ := if IsBar g.2 then 1 else N
  payload g _ d :=
    if IsBar g.2 then barPay g.1.1 d
    else if h : IsSend g.2 then sendPay V g.1.1 h.choose
    else if h : IsRecv g.2 then recvPay V g.1.1 h.choose
    else iprop(emp)
  amount_pos g _ _ _ := by
    by_cases h : IsBar g.2
    · rw [if_pos h]; exact Nat.one_pos
    · rw [if_neg h]; exact N_pos

instance sched_storable (g : GSem nD τ sig) (r : ℕ) (d : Bool) : BI.Storable (upEmb : UEmb _ 𝕄) ((sched (F := F) V).payload g r d) := by
  unfold sched barPay sendPay recvPay
  dsimp only
  (repeat' split) <;> infer_instance

section Cells
variable (c : Dev nD) (i : Fin 12)

theorem isSend_choose (h : IsSend (.dma (sendS i))) : h.choose = i := by
  have e := h.choose_spec; injection e with e; exact (sendS_inj e).symm
theorem isRecv_choose (h : IsRecv (.dma (recvS i))) : h.choose = i := by
  have e := h.choose_spec; injection e with e; exact (recvS_inj e).symm
theorem not_isSend_recv : ¬ IsSend (.dma (recvS i)) := fun ⟨j, h⟩ => by injection h with h; exact sendS_ne_recvS j i h.symm

omit [FloatOps F]

theorem duties_bar : (sched (F := F) V).duties (barCell c) 0 = Finset.univ := by
  unfold sched; dsimp only; rw [if_pos ⟨rfl, rfl⟩, if_pos rfl]
theorem duties_send : (sched (F := F) V).duties (sendCell c i) 0 = {false} := by
  unfold sched; dsimp only; rw [if_pos ⟨rfl, rfl⟩, if_neg (by simp), if_pos (.inl ⟨i, rfl⟩)]
theorem duties_recv : (sched (F := F) V).duties (recvCell c i) 0 = {false} := by
  unfold sched; dsimp only; rw [if_pos ⟨rfl, rfl⟩, if_neg (by simp), if_pos (.inr ⟨i, rfl⟩)]
theorem duties_later (g : GSem nD τ sig) : ∀ r, 1 ≤ r → (sched (F := F) V).duties g r = ∅ := fun r hr => by
  unfold sched; dsimp only; rw [if_neg fun h => by omega]

theorem amount_bar (d : Bool) : (sched (F := F) V).amount (barCell c) 0 d = 1 := by unfold sched; dsimp only; rw [if_pos rfl]
theorem amount_send (d : Bool) : (sched (F := F) V).amount (sendCell c i) 0 d = N := by unfold sched; dsimp only; rw [if_neg (by simp)]
theorem amount_recv (d : Bool) : (sched (F := F) V).amount (recvCell c i) 0 d = N := by unfold sched; dsimp only; rw [if_neg (by simp)]

theorem expect_bar : (sched (F := F) V).expect (barCell c) 0 = 2 := by
  unfold Schedule.expect Schedule.amountOf
  rw [duties_bar, Finset.sum_congr rfl fun d _ => amount_bar V c d, Finset.sum_const, Finset.card_univ, Fintype.card_bool, smul_eq_mul]
theorem expect_send : (sched (F := F) V).expect (sendCell c i) 0 = N := by
  unfold Schedule.expect Schedule.amountOf; rw [duties_send, Finset.sum_singleton, amount_send]
theorem expect_recv : (sched (F := F) V).expect (recvCell c i) 0 = N := by
  unfold Schedule.expect Schedule.amountOf; rw [duties_recv, Finset.sum_singleton, amount_recv]

theorem payload_bar (d : Bool) : (sched (F := F) V).payload (barCell c) 0 d = barPay c d := by unfold sched; dsimp only; rw [if_pos rfl]
theorem payload_send (d : Bool) : (sched (F := F) V).payload (sendCell c i) 0 d = sendPay V c i := by
  unfold sched; dsimp only; rw [if_neg (by simp), dif_pos ⟨i, rfl⟩, isSend_choose]
theorem payload_recv (d : Bool) : (sched (F := F) V).payload (recvCell c i) 0 d = recvPay V c i := by
  unfold sched; dsimp only; rw [if_neg (by simp), dif_neg (not_isSend_recv i), dif_pos ⟨i, rfl⟩, isRecv_choose]

/-- Both units of a barrier cell together hand over all twelve landing slots. -/
theorem rest_bar : bigSep ((sched (F := F) V).duties (barCell c) 0 \ ∅) (fun d => (sched (F := F) V).payload (barCell c) 0 d)
    = bigSep Finset.univ fun i => landing (peer i c) i := by
  rw [Finset.sdiff_empty, duties_bar, bigSep_univ_eq_bigSepL [false, true] (by decide) (by decide), bigSepL_cons_cons, bigSepL_singleton,
    payload_bar, payload_bar, bigSep_filter_split Finset.univ (fun i : Fin 12 => AlongY i)]
  rfl
theorem rest_send : bigSep ((sched (F := F) V).duties (sendCell c i) 0 \ ∅) (fun d => (sched (F := F) V).payload (sendCell c i) 0 d) = sendPay V c i := by
  rw [Finset.sdiff_empty, duties_send, bigSep_singleton, payload_send]
theorem rest_recv : bigSep ((sched (F := F) V).duties (recvCell c i) 0 \ ∅) (fun d => (sched (F := F) V).payload (recvCell c i) 0 d) = recvPay V c i := by
  rw [Finset.sdiff_empty, duties_recv, bigSep_singleton, payload_recv]

end Cells

/-! ## What is owed, and the levels -/

/-- Device `c` having sent the messages below `n` owes the receive cells of the others. -/
def owedFrom (c : Dev nD) (n : ℕ) : CellTallies nD τ sig Unit :=
  ∑ j : Fin 12, if n ≤ j.val then tallyAt (recvCell (peer j c) j) () N else 0

theorem owedFrom_step (c : Dev nD) (i : Fin 12) : owedFrom c i.val = owedFrom c (i.val + 1) + tallyAt (recvCell (peer i c) i) () N := by
  unfold owedFrom
  have h : ∀ j : Fin 12, (if i.val ≤ j.val then tallyAt (recvCell (peer j c) j) () N else (0 : CellTallies nD τ sig Unit))
      = (if i.val + 1 ≤ j.val then tallyAt (recvCell (peer j c) j) () N else 0) + (if j = i then tallyAt (recvCell (peer j c) j) () N else 0) := by
    intro j
    by_cases e : j = i
    · subst e; rw [if_pos le_rfl, if_neg (by omega), if_pos rfl, zero_add]
    · have : j.val ≠ i.val := fun h => e (Fin.ext h)
      rw [if_neg e, add_zero]; congr 1; exact propext ⟨fun h => by omega, fun h => by omega⟩
  rw [Finset.sum_congr rfl fun j _ => h j, Finset.sum_add_distrib, Finset.sum_ite_eq' Finset.univ i, if_pos (Finset.mem_univ i)]

theorem owedFrom_end (c : Dev nD) : owedFrom c 12 = 0 := by
  unfold owedFrom; exact Finset.sum_eq_zero fun j _ => if_neg (by omega)

/-- What it owes having signalled one neighbour, and at launch. -/
def O₁ (c : Dev nD) : CellTallies nD τ sig Unit := owedFrom c 0 + tallyAt (barCell (xn c)) () 1
def O₀ (c : Dev nD) : CellTallies nD τ sig Unit := O₁ c + tallyAt (barCell (yn c)) () 1

theorem owedFrom_pos {c : Dev nD} {n : ℕ} {g : GSem nD τ sig} {u : Unit} (h : 0 < owedFrom c n g u) : ∃ j : Fin 12, n ≤ j.val ∧ g = recvCell (peer j c) j := by
  unfold owedFrom at h
  rw [Finset.sum_apply, Finsupp.finset_sum_apply] at h
  obtain ⟨j, -, hj⟩ := Finset.exists_ne_zero_of_sum_ne_zero (Nat.pos_iff_ne_zero.mp h)
  by_cases hn : n ≤ j.val
  · rw [if_pos hn, tallyAt_apply] at hj
    refine ⟨j, hn, ?_⟩
    by_contra hg
    exact hj (if_neg fun h' => hg h'.1)
  · rw [if_neg hn] at hj; exact absurd rfl hj

theorem O₀_pos {c : Dev nD} {g : GSem nD τ sig} {u : Unit} (h : 0 < O₀ c g u) :
    (∃ j : Fin 12, g = recvCell (peer j c) j) ∨ (∃ c', g = barCell c') := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩), add_zero, add_zero] at h
  obtain ⟨j, -, hj⟩ := owedFrom_pos h
  exact hn.1 ⟨j, hj⟩

def L (g : GSem nD τ sig) : Finset Unit := if g.1.2 = .tc then {()} else ∅
/-- Barrier cells at 1, receive cell `i` at `2 + i`, the others at 0. -/
def semLevel : SemLoc sig → ℕ
  | .reg _ => 1
  | .dma q => q.val - 18
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 12) (u : Unit) : lv (recvCell c i) u = 2 + i.val := by
  show (recvS i).val - 18 = _; rw [recvS_val]; omega

omit [FloatOps F]

/-- Waiting for a cell of level below all that is owed. -/
theorem mayWait_of (c : Dev nD) (sm : SemLoc sig) (n : ℕ) (O : CellTallies nD τ sig Unit) (hs : semLevel sm ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- For the launch's own staging cells, with everything or nothing owed; -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by show q.val - 18 ≤ 0; omega) fun g u hg => ?_
    rcases O₀_pos hg with ⟨j, rfl⟩ | ⟨c', rfl⟩
    · exact ⟨rfl, by rw [lv_recv]; omega⟩
    · exact ⟨rfl, Nat.one_pos⟩
  · rw [MayWait_zero]; iintro -; iempintro

/-- at the handshake, all messages still owed; -/
theorem mayWait_bar (c : Dev nD) : (levAts L lv : sProp 𝕄) ⊢ MayWait (c : Thread nD τ) (.reg barS) () (owedFrom c 0) :=
  mayWait_of c _ 1 _ le_rfl fun g u hg => by
    obtain ⟨j, -, rfl⟩ := owedFrom_pos hg
    exact ⟨rfl, by rw [lv_recv]; omega⟩

/-- for a message whose own counterpart is sent. -/
theorem mayWait_recv (c : Dev nD) (i : Fin 12) (n : ℕ) (hn : i.val < n) :
    (levAts L lv : sProp 𝕄) ⊢ MayWait (c : Thread nD τ) (.dma (recvS i)) () (owedFrom c n) :=
  mayWait_of c _ (2 + i.val) _ (lv_recv c i ()).le fun g u hg => by
    obtain ⟨j, hj, rfl⟩ := owedFrom_pos hg
    exact ⟨rfl, by rw [lv_recv]; omega⟩

end Cert.KernelIdealProof

end
-- ==== Proof.Ops.lean ====
/-
# One step of the kernel

For each kind of step, once for all twelve messages: what a device needs for it and has after it. A message goes through
four states on its device: nothing sent yet (`ready`), sent (`sent`), its counterpart come (`got`), and gone (`done`).
-/
module

public import proofs.«01_k».proof.Proof.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program's weakest precondition on device `c`. -/
abbrev WP {α : Type} (c : Dev nD) (p : Body F α) (Q : α → sProp 𝕄) : sProp 𝕄 :=
  wp frame (wpE (defs₀ (F := F)) 𝒱₀ (c : Thread nD τ) none) Set.univ p Q

theorem WP_bind {α β : Type} (c : Dev nD) (p : Body F α) (k : α → Body F β) (Q : β → sProp 𝕄) :
    WP c (p >>= k) Q = WP c p fun a => WP c (k a) Q := wp_bind ..
theorem WP_pure {α : Type} (c : Dev nD) (a : α) (Q : α → sProp 𝕄) : Q a ⊢ WP c (pure a) Q := by
  show Q a ⊢ wp frame (wpE (defs₀ (F := F)) 𝒱₀ (c : Thread nD τ) none) Set.univ (pure a) Q
  rw [wp_pure]; iintro H; imodintro; iexact H

/-! ## Slots -/

theorem part_set (M : Memref sig .tc .vmem S3x2x128x128 .bf16) (i : Fin 12) : (part M i).view.set = (M.access (slotR i)).set :=
  View.set_reshape _ _

/-- What lands in a slot is what the source slot holds. -/
theorem read_landed (M M' : Memref sig .tc .vmem S3x2x128x128 .bf16) (i : Fin 12)
    (fd : M'.view.ref.ty.Contents (Elt F)) (fs : M.view.ref.ty.Contents (Elt F)) :
    (M'.access (slotR i)).read (Elt F) ((part M' i).view.write (Elt F) fd ((part M i).view.read (Elt F) fs) Finset.univ)
      = (M.access (slotR i)).read (Elt F) fs := by
  have h : S128x128.numel = (slotR i).shape.numel := (squeezes_S1x1x128x128_S128x128).numel_eq
  show (M'.access (slotR i)).read (Elt F) (((M'.access (slotR i)).reshape S128x128 h).write (Elt F) fd
    (((M.access (slotR i)).reshape S128x128 h).read (Elt F) fs) Finset.univ) = _
  rw [View.write_reshape_univ, View.read_write_univ]
  funext x
  show (M.access (slotR i)).read (Elt F) fs ((Shape.reshapeEquiv h) ((Shape.reshapeEquiv h).symm x)) = _
  rw [Equiv.apply_symm_apply]

omit [FloatOps F] in
/-- A slot in two half shares, -/
theorem slot_halves (c : Dev nD) (M : Memref sig .tc .vmem S3x2x128x128 .bf16) (i : Fin 12) (v : SlotVal F) :
    slot c M i fullShare v ⊢ iprop(slot c M i fullShare.left v ∗ slot c M i fullShare.right v) := by
  unfold slot
  iintro ⟨%f, %hf, H⟩
  ihave H := (pointsTo_share (PosShare.mem_left_op_right fullShare)).1 $$ H
  icases H with ⟨H₁, H₂⟩
  isplitl [H₁]
  · iexists f; isplitr; · ipureintro; exact hf
    iexact H₁
  · iexists f; isplitr; · ipureintro; exact hf
    iexact H₂

omit [FloatOps F] in
/-- and two half shares as a slot: they agree on what it holds. -/
theorem slot_join (c : Dev nD) (M : Memref sig .tc .vmem S3x2x128x128 .bf16) (i : Fin 12) (v w : SlotVal F) :
    iprop(slot c M i fullShare.left v ∗ slot c M i fullShare.right w) ⊢ slot c M i fullShare w := by
  unfold slot
  iintro ⟨⟨%f, -, H₁⟩, ⟨%g, %hg, H₂⟩⟩
  ihave H := (persistent_entails_right pointsTo_agree) $$ [H₁ H₂]
  · isplitl [H₁] <;> iassumption
  icases H with ⟨%h, H₁, H₂⟩
  iexists g
  isplitr; · ipureintro; exact hg
  iapply (pointsTo_share (PosShare.mem_left_op_right fullShare)).2
  isplitl [H₁]
  · iapply (Entails.of_eq (pointsTo_congr fun j hj => (h j (Finset.mem_inter.mpr ⟨hj, hj⟩)).1)) $$ H₁
  · iexact H₂

/-- Load of a slot, at any share. -/
theorem load_slot (c : Dev nD) (M : Memref sig .tc .vmem S3x2x128x128 .bf16) (i : Fin 12) (q : PosShare TreeShare) (v : SlotVal F)
    (Q : SlotVal F → sProp 𝕄) :
    iprop(slot c M i q v ∗ (slot c M i q v -∗ Q v)) ⊢ WP c (loadSlot M i) Q := by
  unfold slot loadSlot
  iintro ⟨⟨%f, %hf, H⟩, Hk⟩
  iapply (wp_load_rect 𝒱₀ (c : Thread nD τ) none Set.univ (m := M) (r := slotR i) (S := (M.access (slotR i)).set) subset_rfl) $$ H
  iintro H
  rw [wp_ret, hf]; imodintro
  iapply Hk
  iexists f; isplitr; · ipureintro; exact hf
  iexact H

/-- Filling a slot, whatever it holds. -/
theorem put_slot (c : Dev nD) (i : Fin 12) (w : SlotVal F) (Q : PUnit → sProp 𝕄) :
    iprop(source c i ∗ (slot c (srcM i) i fullShare w -∗ Q ⟨⟩)) ⊢ WP c (put i w) Q := by
  unfold source put
  iintro ⟨⟨%v, H⟩, Hk⟩
  rw [WP_bind]
  iapply (load_slot c (srcM i) i fullShare v)
  isplitl [H]; · iexact H
  iintro H
  unfold slot
  icases H with ⟨%f, -, H⟩
  iapply (wp_store 𝒱₀ (c : Thread nD τ) none Set.univ (m := srcM i) (r := slotR i) (Mk := Finset.univ)
    (S := ((srcM i).access (slotR i)).set) subset_rfl) $$ H
  iintro H
  rw [wp_ret]; imodintro
  iapply Hk
  iexists _; isplitr; swap; · iexact H
  ipureintro; exact View.read_write_univ _ _

/-! ## What all devices know -/

variable (V : Dev nD → Fin 12 → SlotVal F)

/-- The cells of a device: the barrier's, and per message the send and the receive cell. -/
abbrev CellIx : Type := Option (Bool × Fin 12)
abbrev cellSem : CellIx → SemLoc sig
  | none => .reg barS
  | some (false, i) => .dma (sendS i)
  | some (true, i) => .dma (recvS i)
abbrev kcell (ck : Dev nD × CellIx) : GSem nD τ sig := ((ck.1 : Thread nD τ), cellSem ck.2)

/-- Every cell follows the schedule and is in its first round at least. -/
def records (K : Dev nD × CellIx → ℕ) : sProp 𝕄 :=
  bigSep Finset.univ fun ck : Dev nD × CellIx => iprop(cellInv ER (sched V) (K ck) (kcell ck) ∗ reached ER (kcell ck) 0)

instance records_persistent (K : Dev nD × CellIx → ℕ) : BI.Persistent (records V K) := by unfold records; infer_instance

/-- That and the levels. -/
def known (K : Dev nD × CellIx → ℕ) : sProp 𝕄 := iprop(records V K ∗ levAts L lv)

instance known_persistent (K : Dev nD × CellIx → ℕ) : BI.Persistent (known V K) := by unfold known; infer_instance

variable (K : Dev nD × CellIx → ℕ)

theorem known_cell (ck : Dev nD × CellIx) : known V K ⊢ iprop(cellInv ER (sched V) (K ck) (kcell ck) ∗ reached ER (kcell ck) 0) := by
  unfold known records
  have h : (records V K : sProp 𝕄) ⊢ iprop(cellInv ER (sched V) (K ck) (kcell ck) ∗ reached ER (kcell ck) 0) := bigSep_elim (Finset.mem_univ ck)
  iintro ⟨H, -⟩
  iapply h
  unfold records
  iexact H

theorem known_send (c : Dev nD) (i : Fin 12) :
    known V K ⊢ iprop(cellInv ER (sched V) (K (c, some (false, i))) (sendCell c i) ∗ reached ER (sendCell c i) 0) := known_cell V K (c, some (false, i))
theorem known_recv (c : Dev nD) (i : Fin 12) :
    known V K ⊢ iprop(cellInv ER (sched V) (K (c, some (true, i))) (recvCell c i) ∗ reached ER (recvCell c i) 0) := known_cell V K (c, some (true, i))
theorem known_bar (c : Dev nD) :
    known V K ⊢ iprop(cellInv ER (sched V) (K (c, none)) (barCell c) ∗ reached ER (barCell c) 0) := known_cell V K (c, none)
theorem known_lev : known V K ⊢ levAts L lv := by unfold known; iintro ⟨-, H⟩; iexact H

/-- Device `c` has sent the messages below `n`. -/
def owing (c : Dev nD) (n : ℕ) : sProp 𝕄 := iprop(∃ W, owes (c : Thread nD τ) (owedFrom c n) W)

/-! ## The states of a message -/

def ready (c : Dev nD) (i : Fin 12) : sProp 𝕄 :=
  iprop(source c i ∗ landing (peer i c) i ∗ dutyTok ER (sendCell c i) 0 false ∗ dutyTok ER (recvCell (peer i c) i) 0 false
    ∗ atPos ER (sendCell c i) 0 ∅ 0 ∗ atPos ER (recvCell c i) 0 ∅ 0 ∗ cred (tallyAt (recvCell c i) () N))
def sent (c : Dev nD) (i : Fin 12) : sProp 𝕄 :=
  iprop(slot c (srcM i) i fullShare.right (V c i) ∗ cred (tallyAt (sendCell c i) () N)
    ∗ atPos ER (sendCell c i) 0 ∅ 0 ∗ atPos ER (recvCell c i) 0 ∅ 0 ∗ cred (tallyAt (recvCell c i) () N))
def got (c : Dev nD) (i : Fin 12) : sProp 𝕄 :=
  iprop(slot c (srcM i) i fullShare.right (V c i) ∗ slot c (dstM i) i fullShare (V (peer i c) i)
    ∗ cred (tallyAt (sendCell c i) () N) ∗ atPos ER (sendCell c i) 0 ∅ 0 ∗ semVal (recvCell c i) 0)
def done (c : Dev nD) (i : Fin 12) : sProp 𝕄 :=
  iprop(source c i ∗ landing c i ∗ semVal (sendCell c i) 0 ∗ semVal (recvCell c i) 0)

/-! ## The steps -/

/-- The transfer of message `i`: half of the source slot goes into it, and the neighbour's slot. -/
theorem send_slot (c : Dev nD) (i : Fin 12) (W : Waits sig Unit) (fs : Buf (Elt F) ((part (srcM i) i).view.loc (c : Thread nD τ)))
    (hfs : ((srcM i).access (slotR i)).read (Elt F) fs = V c i) (fd : Buf (Elt F) ((part (dstM i) i).view.loc (peer i c : Thread nD τ)))
    (Q : PUnit → sProp 𝕄) :
    iprop(cellInv ER (sched V) (K (c, some (false, i))) (sendCell c i) ∗ cellInv ER (sched V) (K (peer i c, some (true, i))) (recvCell (peer i c) i)
        ∗ ((part (srcM i) i).view.loc (c : Thread nD τ) ↦[(part (srcM i) i).view.set]{fullShare.left} fs)
        ∗ ((part (dstM i) i).view.loc (peer i c : Thread nD τ) ↦[(part (dstM i) i).view.set]{fullShare} fd)
        ∗ owes (c : Thread nD τ) (owedFrom c i.val) W
        ∗ dutyTok ER (sendCell c i) 0 false ∗ reached ER (sendCell c i) 0
        ∗ dutyTok ER (recvCell (peer i c) i) 0 false ∗ reached ER (recvCell (peer i c) i) 0)
      ⊢ iprop(((cred (tallyAt (sendCell c i) () N) ∗ owes (c : Thread nD τ) (owedFrom c (i.val + 1)) W) -∗ Q ⟨⟩) -∗ WP c (send i (peer i c)) Q) := by
  unfold send
  iintro H Hk
  iapply (Rounds.wp_send_pointsTo 𝒱₀ ER (sched V) (c : Thread nD τ) none (κ₁ := K (c, some (false, i))) (κ₂ := K (peer i c, some (true, i)))
    (r₁ := 0) (r₂ := 0) (d₁ := false) (d₂ := false) (c' := (peer i c : Thread nD τ)) (src := part (srcM i) i) (dst := part (dstM i) i) (fs := fs) (fd := fd)
    (by rw [duties_send]; exact Finset.mem_singleton_self _) (by rw [duties_recv]; exact Finset.mem_singleton_self _)
    () () N (by exact credit_eq i) (amount_send V c i false) (amount_recv V (peer i c) i false) (owedFrom c (i.val + 1)) (owedFrom_step c i) (W := W)
    (q := fullShare.left)
    (by
      rw [payload_send]; unfold sendPay slot
      iintro H; iexists fs; isplitr; · ipureintro; exact hfs
      rw [part_set]; iexact H)
    (by
      rw [payload_recv]; unfold recvPay slot
      iintro H; iexists _; isplitr
      swap; · rw [part_set]; iexact H
      ipureintro; rw [peer_peer]; exact (read_landed (srcM i) (dstM i) i fd fs).trans hfs)) $$ H
  iintro H
  rw [wp_ret]; imodintro
  iapply Hk
  iexact H

/-- Filling a slot with the message and sending it. -/
theorem step_send (c n : Dev nD) (i : Fin 12) (w : SlotVal F) (hw : w = V c i) (hn : n = peer i c) (Q : PUnit → sProp 𝕄) :
    iprop(known V K ∗ owing c i.val ∗ ready c i ∗ ((owing c (i.val + 1) ∗ sent V c i) -∗ Q ⟨⟩))
      ⊢ WP c (put i w) fun _ => WP c (send i n) Q := by
  subst hw hn
  unfold ready landing
  iintro ⟨#Hkn, HO, ⟨Hsrc, ⟨%vd, Hdst⟩, Ht₁, Ht₂, Hp₁, Hp₂, Hc⟩, Hk⟩
  iapply (put_slot c i (V c i))
  isplitl [Hsrc]; · iexact Hsrc
  iintro Hsrc
  ihave Hsrc := (slot_halves c (srcM i) i (V c i)) $$ Hsrc
  icases Hsrc with ⟨Hl, Hr⟩
  ihave #Hs := (known_send V K c i) $$ Hkn
  ihave #Hv := (known_recv V K (peer i c) i) $$ Hkn
  icases Hs with ⟨#Hs₁, #Hs₂⟩
  icases Hv with ⟨#Hv₁, #Hv₂⟩
  ihave Hl := (Entails.of_eq (slot.eq_1 ..)) $$ Hl
  ihave Hdst := (Entails.of_eq (slot.eq_1 ..)) $$ Hdst
  icases Hl with ⟨%fs, %hfs, Hl⟩
  icases Hdst with ⟨%fd, -, Hdst⟩
  ihave HO := (Entails.of_eq (owing.eq_1 ..)) $$ HO
  icases HO with ⟨%W, HO⟩
  iapply (send_slot V K c i W fs hfs fd Q) $$ [Hl Hdst HO Ht₁ Ht₂]
  · isplitr; · iexact Hs₁
    isplitr; · iexact Hv₁
    isplitl [Hl]; · rw [part_set]; iexact Hl
    isplitl [Hdst]; · rw [part_set]; iexact Hdst
    isplitl [HO]; · iexact HO
    isplitl [Ht₁]; · iexact Ht₁
    isplitr; · iexact Hs₂
    isplitl [Ht₂]; · iexact Ht₂
    iexact Hv₂
  iintro ⟨HcS, HO⟩
  iapply Hk
  isplitl [HO]; · unfold owing; iexists W; iexact HO
  unfold sent
  isplitl [Hr]; · iexact Hr
  isplitl [HcS]; · iexact HcS
  isplitl [Hp₁]; · iexact Hp₁
  isplitl [Hp₂] <;> iassumption

/-- Waiting for the counterpart of a sent message. -/
theorem step_await (c : Dev nD) (i : Fin 12) (n : ℕ) (hn : i.val < n) (Q : PUnit → sProp 𝕄) :
    iprop(known V K ∗ owing c n ∗ sent V c i ∗ ((owing c n ∗ got V c i) -∗ Q ⟨⟩)) ⊢ WP c (await i) Q := by
  unfold sent owing await
  iintro ⟨#Hkn, ⟨%W, HO⟩, ⟨Hsrc, HcS, Hp₁, Hp₂, Hc⟩, Hk⟩
  ihave #Hv := (known_recv V K c i) $$ Hkn
  icases Hv with ⟨#Hv₁, -⟩
  iapply (Rounds.wp_wait_rest_token 𝒱₀ ER (sched V) (c : Thread nD τ) none (κ := K (c, some (true, i)))
      (wpE_waitDma2_eq 𝒱₀ (c : Thread nD τ) none Set.univ) (Set.mem_univ _) () (O := owedFrom c n) (W := W) (R := 0) (m := 0) (T := ∅)
      (by rw [Nat.zero_add, expect_recv]; exact credit_eq i)) $$ [Hc HO Hp₂]
  · isplitr; · iexact Hv₁
    isplitl [Hc]; · rw [credit_eq i]; iexact Hc
    isplitl [HO]; · iexact HO
    isplitr; · iapply (mayWait_recv c i n hn); iapply (known_lev V K); iexact Hkn
    iexact Hp₂
  iintro ⟨HO, Hp₂, -, Hpay⟩
  ihave Hpay := (Entails.of_eq (rest_recv V c i)) $$ Hpay
  imod (Rounds.cell_close ER (sched V) (Set.mem_univ (K (c, some (true, i)))) (fun h => h) (R := 0 + 1) (duties_later V (recvCell c i))) $$ [Hp₂] with Hz
  · isplitr; · iexact Hv₁
    iexact Hp₂
  rw [wp_ret]; imodintro
  iapply Hk
  isplitl [HO]; · iexists _; iexact HO
  unfold got
  isplitl [Hsrc]; · iexact Hsrc
  isplitl [Hpay]; · unfold recvPay; iexact Hpay
  isplitl [HcS]; · iexact HcS
  isplitl [Hp₁] <;> iassumption

/-- Loading what was sent, -/
theorem step_own (c : Dev nD) (i : Fin 12) (Q : SlotVal F → sProp 𝕄) :
    iprop(got V c i ∗ (got V c i -∗ Q (V c i))) ⊢ WP c (loadSlot (srcM i) i) Q := by
  unfold got
  iintro ⟨⟨H, Hr⟩, Hk⟩
  iapply (load_slot c (srcM i) i fullShare.right (V c i))
  isplitl [H]; · iexact H
  iintro H
  iapply Hk
  isplitl [H] <;> iassumption

/-- and what has come. -/
theorem step_other (c : Dev nD) (i : Fin 12) (Q : SlotVal F → sProp 𝕄) :
    iprop(got V c i ∗ (got V c i -∗ Q (V (peer i c) i))) ⊢ WP c (loadSlot (dstM i) i) Q := by
  unfold got
  iintro ⟨⟨H₁, H, Hr⟩, Hk⟩
  iapply (load_slot c (dstM i) i fullShare (V (peer i c) i))
  isplitl [H]; · iexact H
  iintro H
  iapply Hk
  isplitl [H₁]; · iexact H₁
  isplitl [H] <;> iassumption

/-- Waiting until a message has left, at the end. -/
theorem step_flush (c : Dev nD) (i : Fin 12) (Q : PUnit → sProp 𝕄) :
    iprop(known V K ∗ owing c 12 ∗ got V c i ∗ ((owing c 12 ∗ done c i) -∗ Q ⟨⟩)) ⊢ WP c (flush i) Q := by
  unfold got owing flush
  rw [owedFrom_end]
  iintro ⟨#Hkn, ⟨%W, HO⟩, ⟨Hsrc, Hdst, HcS, Hp, Hz₂⟩, Hk⟩
  ihave #Hs := (known_send V K c i) $$ Hkn
  icases Hs with ⟨#Hs₁, -⟩
  iapply (Rounds.wp_wait_rest_token 𝒱₀ ER (sched V) (c : Thread nD τ) none (κ := K (c, some (false, i)))
      (wpE_waitDma2_eq 𝒱₀ (c : Thread nD τ) none Set.univ) (Set.mem_univ _) () (O := 0) (W := W) (R := 0) (m := 0) (T := ∅)
      (by rw [Nat.zero_add, expect_send]; exact credit_src_eq i)) $$ [HcS HO Hp]
  · isplitr; · iexact Hs₁
    isplitl [HcS]; · rw [credit_src_eq i]; iexact HcS
    isplitl [HO]; · iexact HO
    isplitr; · rw [MayWait_zero]; iempintro
    iexact Hp
  iintro ⟨HO, Hp, -, Hpay⟩
  ihave Hpay := (Entails.of_eq (rest_send V c i)) $$ Hpay
  imod (Rounds.cell_close ER (sched V) (Set.mem_univ (K (c, some (false, i)))) (fun h => h) (R := 0 + 1) (duties_later V (sendCell c i))) $$ [Hp] with Hz
  · isplitr; · iexact Hs₁
    iexact Hp
  unfold sendPay
  ihave Hsrc := (slot_join c (srcM i) i (V c i) (V c i)) $$ [Hpay Hsrc]
  · isplitl [Hpay] <;> iassumption
  rw [wp_ret]; imodintro
  iapply Hk
  isplitl [HO]; · iexists _; iexact HO
  unfold done source landing
  isplitl [Hsrc]; · iexists _; iexact Hsrc
  isplitl [Hdst]; · iexists _; iexact Hdst
  isplitl [Hz] <;> iassumption

end Cert.KernelIdealProof

end
-- ==== Proof.Layer.lean ====
/-
# One layer

Whatever the layer: from its four messages not yet sent to all four exchanged, and the next activations as its result.
-/
module

public import proofs.«01_k».proof.Proof.Ops

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Start F) (K : Dev nD × CellIx → ℕ)

/-- The layer's four messages, none sent; -/
def readyAll (c : Dev nD) (k : Fin 3) : sProp 𝕄 :=
  iprop(ready c (msgIx k 0) ∗ ready c (msgIx k 1) ∗ ready c (msgIx k 2) ∗ ready c (msgIx k 3))
/-- all exchanged. -/
def gotAll (c : Dev nD) (k : Fin 3) : sProp 𝕄 :=
  iprop(got (msg I) c (msgIx k 0) ∗ got (msg I) c (msgIx k 1) ∗ got (msg I) c (msgIx k 2) ∗ got (msg I) c (msgIx k 3))

theorem run_layer (c : Dev nD) (k : Fin 3) {n₀ n₁ n₂ n₃ : Dev nD} (h₀ : n₀ = yn c) (h₁ : n₁ = yn c) (h₂ : n₂ = xn c) (h₃ : n₃ = xn c)
    (Q : FVec F S128x128 .f32 → sProp 𝕄) :
    iprop(known (msg I) K ∗ owing c (4 * k.val) ∗ readyAll c k
        ∗ ((owing c (4 * (k.val + 1)) ∗ gotAll I c k) -∗ Q (after I k (act I k) c)))
      ⊢ WP c (layer k n₀ n₁ n₂ n₃ (act I k c) (I.win k c) (I.wout k c)) Q := by
  unfold readyAll layer
  iintro ⟨#Hkn, HO, ⟨H₀, H₁, H₂, H₃⟩, Hk⟩
  -- both chunks of the first product out
  rw [WP_bind]; simp only [WP_bind]
  iapply (step_send (msg I) K c n₀ (msgIx k 0) (up 0 (act I k c) (I.win k c)) (msg_0 I k c).symm (h₀.trans (peer_0 k c).symm))
  isplitr; · iexact Hkn
  isplitl [HO]; · iexact HO
  isplitl [H₀]; · iexact H₀
  iintro ⟨HO, H₀⟩
  iapply (step_send (msg I) K c n₁ (msgIx k 1) (up 1 (act I k c) (I.win k c)) (msg_1 I k c).symm (h₁.trans (peer_1 k c).symm))
  isplitr; · iexact Hkn
  isplitl [HO]; · iexact HO
  isplitl [H₁]; · iexact H₁
  iintro ⟨HO, H₁⟩
  -- chunk 0 of the neighbour in, chunk 0 of the second product out
  iapply (step_await (msg I) K c (msgIx k 0) (4 * k.val + 2) (by show 4 * k.val + 0 < _; omega))
  isplitr; · iexact Hkn
  isplitl [HO]; · iexact HO
  isplitl [H₀]; · iexact H₀
  iintro ⟨HO, H₀⟩
  iapply (step_own (msg I) c (msgIx k 0)); isplitl [H₀]; · iexact H₀
  iintro H₀
  iapply (step_other (msg I) c (msgIx k 0)); isplitl [H₀]; · iexact H₀
  iintro H₀
  iapply (step_send (msg I) K c n₂ (msgIx k 2) _ (by rw [msg_0, peer_0, msg_0, msg_2]; rfl) (h₂.trans (peer_2 k c).symm))
  isplitr; · iexact Hkn
  isplitl [HO]; · iexact HO
  isplitl [H₂]; · iexact H₂
  iintro ⟨HO, H₂⟩
  -- chunk 1
  iapply (step_await (msg I) K c (msgIx k 1) (4 * k.val + 3) (by show 4 * k.val + 1 < _; omega))
  isplitr; · iexact Hkn
  isplitl [HO]; · iexact HO
  isplitl [H₁]; · iexact H₁
  iintro ⟨HO, H₁⟩
  iapply (step_own (msg I) c (msgIx k 1)); isplitl [H₁]; · iexact H₁
  iintro H₁
  iapply (step_other (msg I) c (msgIx k 1)); isplitl [H₁]; · iexact H₁
  iintro H₁
  iapply (step_send (msg I) K c n₃ (msgIx k 3) _ (by rw [msg_1, peer_1, msg_1, msg_3]; rfl) (h₃.trans (peer_3 k c).symm))
  isplitr; · iexact Hkn
  isplitl [HO]; · iexact HO
  isplitl [H₃]; · iexact H₃
  iintro ⟨HO, H₃⟩
  -- both parts of the neighbour in, and the sum
  iapply (step_await (msg I) K c (msgIx k 2) (4 * (k.val + 1)) (by show 4 * k.val + 2 < _; omega))
  isplitr; · iexact Hkn
  isplitl [HO]; · iexact HO
  isplitl [H₂]; · iexact H₂
  iintro ⟨HO, H₂⟩
  iapply (step_await (msg I) K c (msgIx k 3) (4 * (k.val + 1)) (by show 4 * k.val + 3 < _; omega))
  isplitr; · iexact Hkn
  isplitl [HO]; · iexact HO
  isplitl [H₃]; · iexact H₃
  iintro ⟨HO, H₃⟩
  iapply (step_own (msg I) c (msgIx k 2)); isplitl [H₂]; · iexact H₂
  iintro H₂
  iapply (step_own (msg I) c (msgIx k 3)); isplitl [H₃]; · iexact H₃
  iintro H₃
  iapply (step_other (msg I) c (msgIx k 2)); isplitl [H₂]; · iexact H₂
  iintro H₂
  iapply (step_other (msg I) c (msgIx k 3)); isplitl [H₃]; · iexact H₃
  iintro H₃
  iapply (WP_pure c)
  have e : gather (msg I c (msgIx k 2)) (msg I c (msgIx k 3)) (msg I (peer (msgIx k 2) c) (msgIx k 2)) (msg I (peer (msgIx k 3) c) (msgIx k 3))
      = after I k (act I k) c := by rw [msg_2, msg_3, peer_2, peer_3, msg_2, msg_3]; rfl
  rw [e]
  iapply Hk
  isplitl [HO]; · iexact HO
  unfold gotAll
  isplitl [H₀]; · iexact H₀
  isplitl [H₁]; · iexact H₁
  isplitl [H₂] <;> iassumption

end Cert.KernelIdealProof

end
-- ==== Proof.Whole.lean ====
/-
# The whole body

The handshake, the three layers, the store of the result, and the waits at the end.
-/
module

public import proofs.«01_k».proof.Proof.Layer

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the messages go -/

theorem dests_y (c : Dev nD) : dests c 0 = yn c ∧ dests c 2 = yn c ∧ dests c 3 = yn c ∧ dests c 6 = yn c ∧ dests c 7 = yn c ∧ dests c 10 = yn c ∧ dests c 11 = yn c := by
  have h : ∀ c : Dev nD, (2 * (c.val / 2) + 1) - (c.val % 2) = (yn c).val := by decide
  refine ⟨Fin.ext ?_, Fin.ext ?_, Fin.ext ?_, Fin.ext ?_, Fin.ext ?_, Fin.ext ?_, Fin.ext ?_⟩ <;> rw [← h c]
  exacts [k0_dev1_eq c, k0_dev3_eq c, k0_dev4_eq c, k0_dev7_eq c, k0_dev8_eq c, k0_dev11_eq c, k0_dev12_eq c]
theorem dests_x (c : Dev nD) : dests c 1 = xn c ∧ dests c 4 = xn c ∧ dests c 5 = xn c ∧ dests c 8 = xn c ∧ dests c 9 = xn c ∧ dests c 12 = xn c ∧ dests c 13 = xn c := by
  have h : ∀ c : Dev nD, ((c.val % 2) + 2) - (2 * (c.val / 2)) = (xn c).val := by decide
  refine ⟨Fin.ext ?_, Fin.ext ?_, Fin.ext ?_, Fin.ext ?_, Fin.ext ?_, Fin.ext ?_, Fin.ext ?_⟩ <;> rw [← h c]
  exacts [k0_dev2_eq c, k0_dev5_eq c, k0_dev6_eq c, k0_dev9_eq c, k0_dev10_eq c, k0_dev13_eq c, k0_dev14_eq c]

theorem WP_deviceId (c : Dev nD) (Q : Dev nD → sProp 𝕄) : Q c ⊢ WP c (Prog.lift .deviceId : Body F (Dev nD)) Q := by
  show Q c ⊢ wp frame (wpE (defs₀ (F := F)) 𝒱₀ (c : Thread nD τ) none) Set.univ (.op .deviceId .ret) Q
  rw [wp_deviceId, wp_ret]; iintro H; imodintro; iexact H

/-! ## The handshake -/

variable (V : Dev nD → Fin 12 → SlotVal F) (K : Dev nD × CellIx → ℕ)

omit [FloatOps F] in
theorem barPay_y (c : Dev nD) : barPay (F := F) (yn c) false = bigSep (side false) fun i => landing c i := by
  unfold barPay
  refine bigSep_congr fun i hi => ?_
  have h : AlongY i := (Finset.mem_filter.mp hi).2
  have e : peer i (yn c) = c := by unfold peer; rw [if_pos h, yn_yn]
  rw [e]
omit [FloatOps F] in
theorem barPay_x (c : Dev nD) : barPay (F := F) (xn c) true = bigSep (side true) fun i => landing c i := by
  unfold barPay
  refine bigSep_congr fun i hi => ?_
  have h : ¬ AlongY i := (Finset.mem_filter.mp hi).2
  have e : peer i (xn c) = c := by unfold peer; rw [if_neg h, xn_xn]
  rw [e]
omit [FloatOps F] in
theorem sides (Φ : Fin 12 → sProp 𝕄) : bigSep Finset.univ Φ = iprop(bigSep (side false) Φ ∗ bigSep (side true) Φ) :=
  bigSep_filter_split Finset.univ (fun i : Fin 12 => AlongY i)

/-- Both signals lend the device's landing slots, and the wait for two borrows the neighbours'. -/
theorem handshake (c : Dev nD) {n₀ n₁ : Dev nD} (h₀ : n₀ = yn c) (h₁ : n₁ = xn c) (Q : PUnit → sProp 𝕄) :
    iprop(known V K ∗ (∃ W, owes (c : Thread nD τ) (O₀ c) W)
        ∗ dutyTok ER (barCell (yn c)) 0 false ∗ dutyTok ER (barCell (xn c)) 0 true ∗ atPos ER (barCell c) 0 ∅ 0 ∗ cred (tallyAt (barCell c) () 2)
        ∗ bigSep Finset.univ (fun i => landing c i)
        ∗ ((owing c 0 ∗ semVal (barCell c) 0 ∗ bigSep Finset.univ (fun i => landing (peer i c) i)) -∗ Q ⟨⟩))
      ⊢ WP c (semSignalWord n₀ barS 1#32) fun _ => WP c (semSignalWord n₁ barS 1#32) fun _ => WP c (semWaitWord barS 2#32) Q := by
  subst h₀ h₁
  unfold semSignalWord semWaitWord
  iintro ⟨#Hkn, ⟨%W, HO⟩, Ht₁, Ht₂, Hp, Hc, Hl, Hk⟩
  ihave Hl := (Entails.of_eq (sides fun i => landing c i)) $$ Hl
  icases Hl with ⟨Hl₁, Hl₂⟩
  ihave #Hb := (known_bar V K c) $$ Hkn
  ihave #Hy := (known_bar V K (yn c)) $$ Hkn
  ihave #Hx := (known_bar V K (xn c)) $$ Hkn
  icases Hb with ⟨#Hb, -⟩
  icases Hy with ⟨#Hy₁, #Hy₂⟩
  icases Hx with ⟨#Hx₁, #Hx₂⟩
  iapply (Rounds.wp_signal 𝒱₀ ER (sched V) (c : Thread nD τ) none (dst := (yn c : Thread nD τ)) (κ := K (yn c, none))
      (d := false) (by rw [duties_bar]; exact Finset.mem_univ _) ((amount_bar V (yn c) false).trans (by decide)) () (O₁ c) rfl)
    $$ [HO Ht₁ Hl₁]
  · isplitr; · iexact Hy₁
    isplitl [HO]; · iexact HO
    isplitl [Ht₁]; · iexact Ht₁
    isplitl [Hl₁]; · rw [payload_bar, barPay_y]; iexact Hl₁
    iexact Hy₂
  iintro HO
  rw [wp_ret]; imodintro
  iapply (Rounds.wp_signal 𝒱₀ ER (sched V) (c : Thread nD τ) none (dst := (xn c : Thread nD τ)) (κ := K (xn c, none))
      (d := true) (by rw [duties_bar]; exact Finset.mem_univ _) ((amount_bar V (xn c) true).trans (by decide)) () (owedFrom c 0) rfl)
    $$ [HO Ht₂ Hl₂]
  · isplitr; · iexact Hx₁
    isplitl [HO]; · iexact HO
    isplitl [Ht₂]; · iexact Ht₂
    isplitl [Hl₂]; · rw [payload_bar, barPay_x]; iexact Hl₂
    iexact Hx₂
  iintro HO
  rw [wp_ret]; imodintro
  iapply (Rounds.wp_wait_rest_token 𝒱₀ ER (sched V) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hp]
  · isplitr; · iexact Hb
    isplitl [Hc]; · iexact Hc
    isplitl [HO]; · iexact HO
    isplitr; · iapply (mayWait_bar c); iapply (known_lev V K); iexact Hkn
    iexact Hp
  iintro ⟨HO, Hp, -, Hpay⟩
  ihave Hpay := (Entails.of_eq (rest_bar V c)) $$ Hpay
  imod (Rounds.cell_close ER (sched V) (Set.mem_univ (K (c, none))) (fun h => h) (R := 0 + 1) (duties_later V (barCell c))) $$ [Hp] with Hz
  · isplitr; · iexact Hb
    iexact Hp
  rw [wp_ret]; imodintro
  iapply Hk
  isplitl [HO]; · unfold owing; iexists _; iexact HO
  isplitl [Hz] <;> iassumption

/-! ## Loads of the inputs, store of the result -/

omit [FloatOps F] in
theorem hz : (![0, 0] : Fin 2 → Nat) = fun _ => 0 := funext fun a => by fin_cases a <;> rfl

/-- The rectangles of the whole-buffer accesses. -/
abbrev rX : Rect S128x128 := Rect.unit (s := S128x128) ![0, 0] S128x128.size inb_S128x128_S128x128_0_0
abbrev rIn : Rect S128x256 := Rect.unit (s := S128x256) ![0, 0] S128x256.size inb_S128x256_S128x256_0_0
abbrev rOut : Rect S256x128 := Rect.unit (s := S256x128) ![0, 0] S256x128.size inb_S256x128_S256x128_0_0

/-- A whole buffer on device `c`, holding `X`. -/
abbrev buf {s : Shape} {e : EltTy} (c : Dev nD) (M : Memref sig .tc .vmem s e) (X : Buf (Elt F) (M.view.loc (c : Thread nD τ))) : sProp 𝕄 :=
  (M.view.loc (c : Thread nD τ) ↦{fullShare} X)

theorem run_loadX (c : Dev nD) (X : Buf (Elt F) (xM.view.loc (c : Thread nD τ))) (x : FVec F S128x128 .f32)
    (hx : ldX (xM.view.readAt (Elt F) rX.toLoadRect X) = x) (Q : FVec F S128x128 .f32 → sProp 𝕄) :
    iprop(buf c xM X ∗ (buf c xM X -∗ Q x)) ⊢ WP c loadX Q := by
  subst hx
  unfold loadX
  iintro ⟨H, Hk⟩
  iapply (wp_load 𝒱₀ (c : Thread nD τ) none Set.univ (m := xM) (Finset.subset_univ _)) $$ H; iintro H
  iapply (WP_pure c); iapply Hk; iexact H

theorem run_loadIn (c : Dev nD) (k : Fin 3) (X : Buf (Elt F) ((winM k).view.loc (c : Thread nD τ))) (w : FVec F S128x256 .f32)
    (hw : ldIn ((winM k).view.readAt (Elt F) rIn.toLoadRect X) = w) (Q : FVec F S128x256 .f32 → sProp 𝕄) :
    iprop(buf c (winM k) X ∗ (buf c (winM k) X -∗ Q w)) ⊢ WP c (loadIn k) Q := by
  subst hw
  unfold loadIn
  iintro ⟨H, Hk⟩
  iapply (wp_load 𝒱₀ (c : Thread nD τ) none Set.univ (m := winM k) (Finset.subset_univ _)) $$ H; iintro H
  iapply (WP_pure c); iapply Hk; iexact H

theorem run_loadOut (c : Dev nD) (k : Fin 3) (X : Buf (Elt F) ((woutM k).view.loc (c : Thread nD τ))) (w : FVec F S256x128 .f32)
    (hw : ldOut ((woutM k).view.readAt (Elt F) rOut.toLoadRect X) = w) (Q : FVec F S256x128 .f32 → sProp 𝕄) :
    iprop(buf c (woutM k) X ∗ (buf c (woutM k) X -∗ Q w)) ⊢ WP c (loadOut k) Q := by
  subst hw
  unfold loadOut
  iintro ⟨H, Hk⟩
  iapply (wp_load 𝒱₀ (c : Thread nD τ) none Set.univ (m := woutM k) (Finset.subset_univ _)) $$ H; iintro H
  iapply (WP_pure c); iapply Hk; iexact H

/-- The result stored over whatever the output buffer holds. -/
theorem run_finish (c : Dev nD) (f : (cc0_stg7_0 : Ref sig .tc).ty.Contents (Elt F)) (x : FVec F S128x128 .f32) (Q : PUnit → sProp 𝕄) :
    iprop(buf c outM f ∗ (buf c outM x -∗ Q ⟨⟩)) ⊢ WP c (finish x) Q := by
  unfold finish
  iintro ⟨H, Hk⟩
  iapply (wp_load 𝒱₀ (c : Thread nD τ) none Set.univ (m := outM) (Finset.subset_univ _)) $$ H; iintro H
  iapply (wp_store 𝒱₀ (c : Thread nD τ) none Set.univ (m := outM) (r := rX) (Mk := Finset.univ) (Finset.subset_univ _)) $$ H; iintro H
  rw [show (outM.access rX).write (Elt F) f x Finset.univ = x from Memref.write_access_unit_zero_univ (Elt F) cc0_stg7_0 hz _ f x, wp_ret]
  imodintro
  iapply Hk; iexact H

/-! ## The layers -/

variable (I : Start F)

/-- The buffers that the launch fills: activations and weights, raw. -/
structure Raw (F : FTy → Type) where
  x : (c : Dev nD) → Buf (Elt F) (xM.view.loc (c : Thread nD τ))
  win : (k : Fin 3) → (c : Dev nD) → Buf (Elt F) ((winM k).view.loc (c : Thread nD τ))
  wout : (k : Fin 3) → (c : Dev nD) → Buf (Elt F) ((woutM k).view.loc (c : Thread nD τ))

/-- What the kernel reads of them. -/
def Raw.start (R : Raw F) : Start F where
  x c := ldX (xM.view.readAt (Elt F) rX.toLoadRect (R.x c))
  win k c := ldIn ((winM k).view.readAt (Elt F) rIn.toLoadRect (R.win k c))
  wout k c := ldOut ((woutM k).view.readAt (Elt F) rOut.toLoadRect (R.wout k c))

variable (R : Raw F)

/-- A layer's weights on device `c`. -/
def weights (c : Dev nD) (k : Fin 3) : sProp 𝕄 := iprop(buf c (winM k) (R.win k c) ∗ buf c (woutM k) (R.wout k c))

theorem run_stage (c : Dev nD) (k : Fin 3) {n₀ n₁ n₂ n₃ : Dev nD} (h₀ : n₀ = yn c) (h₁ : n₁ = yn c) (h₂ : n₂ = xn c) (h₃ : n₃ = xn c)
    (Q : FVec F S128x128 .f32 → sProp 𝕄) :
    iprop(known (msg R.start) K ∗ owing c (4 * k.val) ∗ weights R c k ∗ readyAll c k
        ∗ ((owing c (4 * (k.val + 1)) ∗ weights R c k ∗ gotAll R.start c k) -∗ Q (after R.start k (act R.start k) c)))
      ⊢ WP c (stage k n₀ n₁ n₂ n₃ (act R.start k c)) Q := by
  unfold weights stage
  iintro ⟨#Hkn, HO, ⟨H₁, H₂⟩, Hr, Hk⟩
  simp only [WP_bind]
  iapply (run_loadIn c k (R.win k c) (R.start.win k c) rfl); isplitl [H₁]; · iexact H₁
  iintro H₁
  iapply (run_loadOut c k (R.wout k c) (R.start.wout k c) rfl); isplitl [H₂]; · iexact H₂
  iintro H₂
  iapply (run_layer R.start K c k h₀ h₁ h₂ h₃)
  isplitr; · iexact Hkn
  isplitl [HO]; · iexact HO
  isplitl [Hr]; · iexact Hr
  iintro ⟨HO, Hg⟩
  iapply Hk
  isplitl [HO]; · iexact HO
  isplitl [H₁ H₂]; · isplitl [H₁] <;> iassumption
  iexact Hg

/-! ## The whole -/

/-- What device `c` has for its messages before the handshake, the neighbours' slots apart; -/
def pending (c : Dev nD) (i : Fin 12) : sProp 𝕄 :=
  iprop(source c i ∗ dutyTok ER (sendCell c i) 0 false ∗ dutyTok ER (recvCell (peer i c) i) 0 false
    ∗ atPos ER (sendCell c i) 0 ∅ 0 ∗ atPos ER (recvCell c i) 0 ∅ 0 ∗ cred (tallyAt (recvCell c i) () N))

omit [FloatOps F] in
theorem ready_of (c : Dev nD) (i : Fin 12) : iprop(pending c i ∗ landing (peer i c) i) ⊢ ready (F := F) c i := by
  unfold pending ready
  iintro ⟨⟨H, Hr⟩, Hl⟩
  isplitl [H]; · iexact H
  isplitl [Hl] <;> iassumption

omit [FloatOps F] in
theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  simp only [bigSepL_cons_cons, bigSepL_singleton]
  rfl

omit [FloatOps F] in
theorem readyAll_of (c : Dev nD) :
    iprop(bigSep Finset.univ (fun i => pending c i) ∗ bigSep Finset.univ (fun i => landing (peer i c) i))
      ⊢ iprop(readyAll (F := F) c 0 ∗ readyAll c 1 ∗ readyAll c 2) := by
  have h : iprop(bigSep Finset.univ (fun i => pending (F := F) c i) ∗ bigSep Finset.univ (fun i => landing (peer i c) i))
      ⊢ bigSep Finset.univ (fun i => ready (F := F) c i) := by
    rw [← bigSep_sep']
    exact bigSep_mono fun i _ => ready_of c i
  refine h.trans ?_
  rw [twelve]
  unfold readyAll
  iintro ⟨H0, H1, H2, H3, H4, H5, H6, H7, H8, H9, H10, H11⟩
  simp only [show msgIx 0 0 = 0 from rfl, show msgIx 0 1 = 1 from rfl, show msgIx 0 2 = 2 from rfl, show msgIx 0 3 = 3 from rfl,
    show msgIx 1 0 = 4 from rfl, show msgIx 1 1 = 5 from rfl, show msgIx 1 2 = 6 from rfl, show msgIx 1 3 = 7 from rfl,
    show msgIx 2 0 = 8 from rfl, show msgIx 2 1 = 9 from rfl, show msgIx 2 2 = 10 from rfl, show msgIx 2 3 = 11 from rfl]
  isplitl [H0 H1 H2 H3]
  · isplitl [H0]; · iexact H0
    isplitl [H1]; · iexact H1
    isplitl [H2] <;> iassumption
  isplitl [H4 H5 H6 H7]
  · isplitl [H4]; · iexact H4
    isplitl [H5]; · iexact H5
    isplitl [H6] <;> iassumption
  isplitl [H8]; · iexact H8
  isplitl [H9]; · iexact H9
  isplitl [H10] <;> iassumption

/-- The buffers of the launch on device `c`. -/
def inputs (c : Dev nD) : sProp 𝕄 := iprop(buf c xM (R.x c) ∗ weights R c 0 ∗ weights R c 1 ∗ weights R c 2)

/-- The four departures of a layer. -/
theorem run_flush (c : Dev nD) (k : Fin 3) (V : Dev nD → Fin 12 → SlotVal F) (Q : PUnit → sProp 𝕄) :
    iprop(known V K ∗ owing c 12 ∗ (got V c (msgIx k 0) ∗ got V c (msgIx k 1) ∗ got V c (msgIx k 2) ∗ got V c (msgIx k 3))
        ∗ ((owing c 12 ∗ done c (msgIx k 0) ∗ done c (msgIx k 1) ∗ done c (msgIx k 2) ∗ done c (msgIx k 3)) -∗ Q ⟨⟩))
      ⊢ WP c (flush (msgIx k 0)) fun _ => WP c (flush (msgIx k 1)) fun _ => WP c (flush (msgIx k 2)) fun _ => WP c (flush (msgIx k 3)) Q := by
  iintro ⟨#Hkn, HO, ⟨H₀, H₁, H₂, H₃⟩, Hk⟩
  iapply (step_flush V K c (msgIx k 0)); isplitr; · iexact Hkn
  isplitl [HO]; · iexact HO
  isplitl [H₀]; · iexact H₀
  iintro ⟨HO, H₀⟩
  iapply (step_flush V K c (msgIx k 1)); isplitr; · iexact Hkn
  isplitl [HO]; · iexact HO
  isplitl [H₁]; · iexact H₁
  iintro ⟨HO, H₁⟩
  iapply (step_flush V K c (msgIx k 2)); isplitr; · iexact Hkn
  isplitl [HO]; · iexact HO
  isplitl [H₂]; · iexact H₂
  iintro ⟨HO, H₂⟩
  iapply (step_flush V K c (msgIx k 3)); isplitr; · iexact Hkn
  isplitl [HO]; · iexact HO
  isplitl [H₃]; · iexact H₃
  iintro ⟨HO, H₃⟩
  iapply Hk
  isplitl [HO]; · iexact HO
  isplitl [H₀]; · iexact H₀
  isplitl [H₁]; · iexact H₁
  isplitl [H₂] <;> iassumption

/-- The kernel on device `c`. -/
theorem run_whole (c : Dev nD) (f : (cc0_stg7_0 : Ref sig .tc).ty.Contents (Elt F)) (Q : PUnit → sProp 𝕄) :
    iprop(known (msg R.start) K ∗ (∃ W, owes (c : Thread nD τ) (O₀ c) W)
        ∗ (dutyTok ER (barCell (yn c)) 0 false ∗ dutyTok ER (barCell (xn c)) 0 true ∗ atPos ER (barCell c) 0 ∅ 0 ∗ cred (tallyAt (barCell c) () 2))
        ∗ bigSep Finset.univ (fun i => landing c i) ∗ bigSep Finset.univ (fun i => pending c i)
        ∗ inputs R c ∗ buf c outM f
        ∗ (((∃ W, owes (c : Thread nD τ) 0 W) ∗ semVal (barCell c) 0 ∗ bigSep Finset.univ (fun i => done c i) ∗ inputs R c ∗ buf c outM (result R.start c)) -∗ Q ⟨⟩))
      ⊢ WP c body₀ Q := by
  rw [body_eq]
  unfold whole inputs
  obtain ⟨y0, y2, y3, y6, y7, y10, y11⟩ := dests_y c
  obtain ⟨x1, x4, x5, x8, x9, x12, x13⟩ := dests_x c
  iintro ⟨#Hkn, HO, ⟨Ht₁, Ht₂, Hp, Hc⟩, Hl, Hpe, ⟨Hx, Hw₀, Hw₁, Hw₂⟩, Hout, Hk⟩
  rw [WP_bind]
  iapply (WP_deviceId c)
  simp only [WP_bind]
  iapply (handshake (msg R.start) K c y0 x1)
  isplitr; · iexact Hkn
  isplitl [HO]; · iexact HO
  isplitl [Ht₁]; · iexact Ht₁
  isplitl [Ht₂]; · iexact Ht₂
  isplitl [Hp]; · iexact Hp
  isplitl [Hc]; · iexact Hc
  isplitl [Hl]; · iexact Hl
  iintro ⟨HO, Hz, Hl⟩
  ihave Hr := (readyAll_of c) $$ [Hpe Hl]
  · isplitl [Hpe] <;> iassumption
  icases Hr with ⟨Hr₀, Hr₁, Hr₂⟩
  iapply (run_loadX c (R.x c) (act R.start 0 c) rfl); isplitl [Hx]; · iexact Hx
  iintro Hx
  iapply (run_stage K R c 0 y2 y3 x4 x5)
  isplitr; · iexact Hkn
  isplitl [HO]; · iexact HO
  isplitl [Hw₀]; · iexact Hw₀
  isplitl [Hr₀]; · iexact Hr₀
  iintro ⟨HO, Hw₀, Hg₀⟩
  iapply (run_stage K R c 1 y6 y7 x8 x9)
  isplitr; · iexact Hkn
  isplitl [HO]; · iexact HO
  isplitl [Hw₁]; · iexact Hw₁
  isplitl [Hr₁]; · iexact Hr₁
  iintro ⟨HO, Hw₁, Hg₁⟩
  iapply (run_stage K R c 2 y10 y11 x12 x13)
  isplitr; · iexact Hkn
  isplitl [HO]; · iexact HO
  isplitl [Hw₂]; · iexact Hw₂
  isplitl [Hr₂]; · iexact Hr₂
  iintro ⟨HO, Hw₂, Hg₂⟩
  iapply (run_finish c f); isplitl [Hout]; · iexact Hout
  iintro Hout
  unfold gotAll
  iapply (run_flush K c 0 (msg R.start)); isplitr; · iexact Hkn
  isplitl [HO]; · iexact HO
  isplitl [Hg₀]; · iexact Hg₀
  iintro ⟨HO, Hd0, Hd1, Hd2, Hd3⟩
  iapply (run_flush K c 1 (msg R.start)); isplitr; · iexact Hkn
  isplitl [HO]; · iexact HO
  isplitl [Hg₁]; · iexact Hg₁
  iintro ⟨HO, Hd4, Hd5, Hd6, Hd7⟩
  iapply (run_flush K c 2 (msg R.start)); isplitr; · iexact Hkn
  isplitl [HO]; · iexact HO
  isplitl [Hg₂]; · iexact Hg₂
  iintro ⟨HO, Hd8, Hd9, Hd10, Hd11⟩
  iapply Hk
  isplitl [HO]; · unfold owing; rw [owedFrom_end]; iexact HO
  isplitl [Hz]; · iexact Hz
  isplitl [Hd0 Hd1 Hd2 Hd3 Hd4 Hd5 Hd6 Hd7 Hd8 Hd9 Hd10 Hd11]
  · rw [twelve]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    iexact Hd11
  isplitl [Hx Hw₀ Hw₁ Hw₂]
  · isplitl [Hx]; · iexact Hx
    isplitl [Hw₀]; · iexact Hw₀
    isplitl [Hw₁] <;> iassumption
  iexact Hout

end Cert.KernelIdealProof

end
-- ==== Proof.Scratch.lean ====
/-
# The scratch buffers as slots

The launch deals every device four scratch buffers, whole; the kernel's text works on their slots. Six slots make up each
buffer, so that a buffer at any contents is six slots at any contents, and back.
-/
module

public import proofs.«01_k».proof.Proof.Whole
public import Idealize.ShloMosaic.Lib.ViewIndex

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Six slots cover a buffer, without overlap -/

/-- Message numbers whose slots make up a buffer: one for every pair of a layer and a chunk. -/
structure Tiles (S : Finset (Fin 12)) : Prop where
  some : ∀ a : Fin 3, ∀ b : Fin 2, ∃ i ∈ S, i.val / 4 = a.val ∧ i.val % 2 = b.val
  one : ∀ i ∈ S, ∀ j ∈ S, i ≠ j → i.val / 4 ≠ j.val / 4 ∨ i.val % 2 ≠ j.val % 2

theorem tiles_side (b : Bool) : Tiles (side b) := by cases b <;> exact ⟨by decide, by decide⟩

theorem slots_apart {i j : Fin 12} (h : i.val / 4 ≠ j.val / 4 ∨ i.val % 2 ≠ j.val % 2) : Disjoint (slotR i).set (slotR j).set := by
  rcases h with h | h
  · exact Rect.unit_disjoint (0 : Fin 4) (by show i.val / 4 + 1 ≤ j.val / 4 ∨ j.val / 4 + 1 ≤ i.val / 4; omega)
  · exact Rect.unit_disjoint (1 : Fin 4) (by show i.val % 2 + 1 ≤ j.val % 2 ∨ j.val % 2 + 1 ≤ i.val % 2; omega)

theorem slots_all {S : Finset (Fin 12)} (hS : Tiles S) (x : S3x2x128x128.Idx) : ∃ i ∈ S, x ∈ (slotR i).set := by
  obtain ⟨i, hi, h₀, h₁⟩ := hS.some (x 0) (x 1)
  refine ⟨i, hi, Rect.mem_set_unit.mpr fun a => ?_⟩
  match a with
  | ⟨0, _⟩ => exact ⟨h₀.le, by show (x 0).val < i.val / 4 + 1; omega⟩
  | ⟨1, _⟩ => exact ⟨h₁.le, by show (x 1).val < i.val % 2 + 1; omega⟩
  | ⟨2, _⟩ => exact ⟨Nat.zero_le _, by show (x 2).val < 0 + 128; have : (x 2).val < 128 := (x 2).isLt; omega⟩
  | ⟨3, _⟩ => exact ⟨Nat.zero_le _, by show (x 3).val < 0 + 128; have : (x 3).val < 128 := (x 3).isLt; omega⟩

variable (M : Memref sig .tc .vmem S3x2x128x128 .bf16) (hM : M.view.set = Finset.univ) {S : Finset (Fin 12)} (hS : Tiles S)

omit [FloatOps F]

/-- The elements of a slot. -/
def slotSet (c : Dev nD) (i : Fin 12) : Finset (Idx (M.view.loc (c : Thread nD τ))) := (M.access (slotR i)).set

include hS in
theorem slots_disjoint (c : Dev nD) : ∀ i ∈ S, ∀ j ∈ S, i ≠ j → Disjoint (slotSet M c i) (slotSet M c j) :=
  fun i hi j hj h => View.disjoint_slice (slots_apart (hS.one i hi j hj h))

include hM hS in
theorem slots_cover (c : Dev nD) : S.biUnion (slotSet M c) = Finset.univ := by
  refine Finset.eq_univ_iff_forall.mpr fun y => ?_
  have hy : y ∈ M.view.set := by rw [hM]; exact Finset.mem_univ y
  obtain ⟨x, -, rfl⟩ := Finset.mem_map.mp hy
  obtain ⟨i, hi, hx⟩ := slots_all hS x
  refine Finset.mem_biUnion.mpr ⟨i, hi, ?_⟩
  show M.view.emb x ∈ (M.view.slice (slotR i)).set
  rw [View.set_slice]; exact Finset.mem_map_of_mem _ hx

/-- A slot at any contents. -/
theorem slot_of (c : Dev nD) (i : Fin 12) (f : Buf (Elt F) (M.view.loc (c : Thread nD τ))) :
    (M.view.loc (c : Thread nD τ) ↦[slotSet M c i]{fullShare} f : sProp 𝕄) ⊢ iprop(∃ v, slot c M i fullShare v) := by
  unfold slot
  iintro H
  iexists _; iexists f; isplitr; swap; · iexact H
  ipureintro; rfl
theorem of_slot (c : Dev nD) (i : Fin 12) :
    (iprop(∃ v, slot c M i fullShare v) : sProp 𝕄) ⊢ iprop(∃ f : Buf (Elt F) (M.view.loc (c : Thread nD τ)), M.view.loc (c : Thread nD τ) ↦[slotSet M c i]{fullShare} f) := by
  unfold slot
  iintro ⟨%v, %f, -, H⟩
  iexists f; iexact H

include hM hS in
/-- A buffer at any contents as slots at any contents, -/
theorem slots_of_buf (c : Dev nD) (f : Buf (Elt F) (M.view.loc (c : Thread nD τ))) :
    (buf c M f : sProp 𝕄) ⊢ bigSep S fun i => iprop(∃ v, slot c M i fullShare v) := by
  unfold buf
  rw [← slots_cover M hM hS c]
  exact (Entails.of_eq (pointsTo_biUnion S (slotSet M c) (slots_disjoint M hS c))).trans (bigSep_mono fun i _ => slot_of M c i f)

include hM hS in
/-- and back. -/
theorem buf_of_slots (c : Dev nD) (f₀ : Buf (Elt F) (M.view.loc (c : Thread nD τ))) :
    bigSep S (fun i => iprop(∃ v, slot c M i fullShare v)) ⊢ (iprop(∃ f, buf c M f) : sProp 𝕄) := by
  have : Nonempty (Buf (Elt F) (M.view.loc (c : Thread nD τ))) := ⟨f₀⟩
  refine (bigSep_mono fun i _ => of_slot M c i).trans ((BI.bigSep_exists_pi S (fun i (f : Buf (Elt F) (M.view.loc (c : Thread nD τ))) =>
    (M.view.loc (c : Thread nD τ) ↦[slotSet M c i]{fullShare} f : sProp 𝕄))).trans ?_)
  have h : ∀ fs : Fin 12 → Buf (Elt F) (M.view.loc (c : Thread nD τ)),
      (bigSep S (fun i => M.view.loc (c : Thread nD τ) ↦[slotSet M c i]{fullShare} fs i) : sProp 𝕄)
        ⊢ iprop(∃ g, ⌜∀ i ∈ S, ∀ x ∈ slotSet M c i, g x = fs i x⌝ ∗ M.view.loc (c : Thread nD τ) ↦[Finset.univ]{fullShare} g) := fun fs => by
    rw [← slots_cover M hM hS c]
    exact pointsTo_biUnion_join S (slotSet M c) fs f₀ (slots_disjoint M hS c)
  iintro ⟨%fs, H⟩
  ihave H := (h fs) $$ H
  icases H with ⟨%g, -, H⟩
  iexists g; iexact H

/-! ## All four buffers -/

/-- What the launch deals a device, and takes back. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem source_y (c : Dev nD) : bigSep (side false) (fun i => source (F := F) c i)
    = bigSep (side false) (fun i => iprop(∃ v, slot c (Memref.whole cc0_scratch0) i fullShare v)) :=
  bigSep_congr fun i hi => by unfold source srcM; rw [if_pos (Finset.mem_filter.mp hi).2]
theorem source_x (c : Dev nD) : bigSep (side true) (fun i => source (F := F) c i)
    = bigSep (side true) (fun i => iprop(∃ v, slot c (Memref.whole cc0_scratch2) i fullShare v)) :=
  bigSep_congr fun i hi => by unfold source srcM; rw [if_neg (Finset.mem_filter.mp hi).2]
theorem landing_y (c : Dev nD) : bigSep (side false) (fun i => landing (F := F) c i)
    = bigSep (side false) (fun i => iprop(∃ v, slot c (Memref.whole cc0_scratch1) i fullShare v)) :=
  bigSep_congr fun i hi => by unfold landing dstM; rw [if_pos (Finset.mem_filter.mp hi).2]
theorem landing_x (c : Dev nD) : bigSep (side true) (fun i => landing (F := F) c i)
    = bigSep (side true) (fun i => iprop(∃ v, slot c (Memref.whole cc0_scratch3) i fullShare v)) :=
  bigSep_congr fun i hi => by unfold landing dstM; rw [if_neg (Finset.mem_filter.mp hi).2]

theorem scratch_slots (c : Dev nD) :
    scratch (F := F) c ⊢ iprop(bigSep Finset.univ (fun i => source c i) ∗ bigSep Finset.univ (fun i => landing c i)) := by
  rw [sides (fun i => source c i), sides (fun i => landing c i), source_y, source_x, landing_y, landing_x]
  unfold scratch
  iintro ⟨⟨%f₀, H₀⟩, ⟨%f₁, H₁⟩, ⟨%f₂, H₂⟩, ⟨%f₃, H₃⟩⟩
  ihave H₀ := (slots_of_buf (Memref.whole cc0_scratch0) (View.set_whole _) (tiles_side false) c f₀) $$ H₀
  ihave H₁ := (slots_of_buf (Memref.whole cc0_scratch1) (View.set_whole _) (tiles_side false) c f₁) $$ H₁
  ihave H₂ := (slots_of_buf (Memref.whole cc0_scratch2) (View.set_whole _) (tiles_side true) c f₂) $$ H₂
  ihave H₃ := (slots_of_buf (Memref.whole cc0_scratch3) (View.set_whole _) (tiles_side true) c f₃) $$ H₃
  isplitl [H₀ H₂]
  · isplitl [H₀] <;> iassumption
  · isplitl [H₁] <;> iassumption

theorem slots_scratch (c : Dev nD) (m : (b : Ref sig .tc) → Buf (Elt F) ((c : Thread nD τ).loc b)) :
    iprop(bigSep Finset.univ (fun i => source c i) ∗ bigSep Finset.univ (fun i => landing c i)) ⊢ scratch (F := F) c := by
  rw [sides (fun i => source c i), sides (fun i => landing c i), source_y, source_x, landing_y, landing_x]
  unfold scratch
  iintro ⟨⟨H₀, H₂⟩, ⟨H₁, H₃⟩⟩
  ihave H₀ := (buf_of_slots (Memref.whole cc0_scratch0) (View.set_whole _) (tiles_side false) c (m _)) $$ H₀
  ihave H₁ := (buf_of_slots (Memref.whole cc0_scratch1) (View.set_whole _) (tiles_side false) c (m _)) $$ H₁
  ihave H₂ := (buf_of_slots (Memref.whole cc0_scratch2) (View.set_whole _) (tiles_side true) c (m _)) $$ H₂
  ihave H₃ := (buf_of_slots (Memref.whole cc0_scratch3) (View.set_whole _) (tiles_side true) c (m _)) $$ H₃
  isplitl [H₀]; · iexact H₀
  isplitl [H₁]; · iexact H₁
  isplitl [H₂]; · iexact H₂
  iexact H₃

end Cert.KernelIdealProof

end
-- ==== Proof.Ghost.lean ====
/-
# Dealing the cells out

At the launch every device has its own cells: the barrier's, twelve send cells, twelve receive cells. The tokens of the
duties on them go to the devices that pay them, everyone comes to know every cell's schedule, and the credits that the
devices owe from the start go to the devices that wait for them.
-/
module

public import proofs.«01_k».proof.Proof.Scratch

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Fin 12 → SlotVal F)

/-! ## Separating conjunctions over a device's cells -/

section BigSep
omit [FloatOps F]

theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext a; cases a <;> simp
  rw [h, bigSep_insert (by simp), bigSep_map]
  rfl

theorem bigSep_cellIx (Φ : CellIx → sProp 𝕄) :
    bigSep Finset.univ Φ = iprop(Φ none ∗ bigSep Finset.univ (fun i => Φ (some (false, i))) ∗ bigSep Finset.univ (fun i => Φ (some (true, i)))) := by
  rw [bigSep_option, bigSep_univ_prod (fun p : Bool × Fin 12 => Φ (some p)),
    bigSep_univ_eq_bigSepL [false, true] (by decide) (by decide), bigSepL_cons_cons, bigSepL_singleton]
  rfl

end BigSep

/-! ## The cells and the tokens -/

theorem kcell_injective : Function.Injective (kcell : Dev nD × CellIx → GSem nD τ sig) := by
  rintro ⟨c, k⟩ ⟨c', k'⟩ h
  have h₁ : c = c' := congrArg (fun g : GSem nD τ sig => g.1.1) h
  have h₂ : cellSem k = cellSem k' := congrArg Prod.snd h
  subst h₁
  match k, k', h₂ with
  | none, none, _ => rfl
  | none, some (false, _), h => exact absurd h (by simp)
  | none, some (true, _), h => exact absurd h (by simp)
  | some (false, _), none, h => exact absurd h (by simp)
  | some (true, _), none, h => exact absurd h (by simp)
  | some (false, i), some (false, j), h => injection h with h; rw [sendS_inj h]
  | some (true, i), some (true, j), h => injection h with h; rw [recvS_inj h]
  | some (false, i), some (true, j), h => injection h with h; exact absurd h (sendS_ne_recvS i j)
  | some (true, i), some (false, j), h => injection h with h; exact absurd h.symm (sendS_ne_recvS j i)
def meshCells : Finset (GSem nD τ sig) := Finset.univ.map ⟨kcell, kcell_injective⟩

/-- A device's duties: one on every cell, and the second one on the barrier's. -/
abbrev DutyIx : Type := Option CellIx
abbrev tokOf (cj : Dev nD × DutyIx) : GSem nD τ sig × ℕ × Bool := match cj.2 with
  | none => (barCell cj.1, 0, true)
  | some k => (kcell (cj.1, k), 0, false)
theorem tokOf_injective : Function.Injective (tokOf : Dev nD × DutyIx → GSem nD τ sig × ℕ × Bool) := by
  rintro ⟨c, j⟩ ⟨c', j'⟩ h
  match j, j', h with
  | none, none, h => have := congrArg (fun x : GSem nD τ sig × ℕ × Bool => x.1.1.1) h; exact congrArg (fun d => (d, none)) this
  | none, some _, h => exact absurd (congrArg (fun x : GSem nD τ sig × ℕ × Bool => x.2.2) h) (by simp)
  | some _, none, h => exact absurd (congrArg (fun x : GSem nD τ sig × ℕ × Bool => x.2.2) h) (by simp)
  | some k, some k', h =>
    have := kcell_injective (congrArg Prod.fst h)
    injection this with e₁ e₂
    exact congrArg₂ (fun d k => (d, some k)) e₁ e₂
def meshToks : Finset (GSem nD τ sig × ℕ × Bool) := Finset.univ.map ⟨tokOf, tokOf_injective⟩

/-- The launch's own ghost state and the mesh's. -/
def u₀ : UU :=
  (initOf (Pipeline.cells cfgs cellOf_inj) (Pipeline.launchToks cfgs cellOf_inj), initOf meshCells meshToks)

/-- The duties on a device's own cells; -/
def toks (c : Dev nD) : sProp 𝕄 :=
  iprop(dutyTok ER (barCell c) 0 false ∗ dutyTok ER (barCell c) 0 true
    ∗ bigSep Finset.univ (fun i => dutyTok ER (sendCell c i) 0 false) ∗ bigSep Finset.univ (fun i => dutyTok ER (recvCell c i) 0 false))
/-- the duties that a device pays. -/
def payToks (c : Dev nD) : sProp 𝕄 :=
  iprop(dutyTok ER (barCell (yn c)) 0 false ∗ dutyTok ER (barCell (xn c)) 0 true
    ∗ bigSep Finset.univ (fun i => dutyTok ER (sendCell c i) 0 false) ∗ bigSep Finset.univ (fun i => dutyTok ER (recvCell (peer i c) i) 0 false))

/-- A device's cells before its first round. -/
def positions (c : Dev nD) : sProp 𝕄 := bigSep Finset.univ fun k : CellIx => atPos ER (kcell (c, k)) 0 ∅ 0

/-- What the launch deals a device, -/
def G (c : Dev nD) : sProp 𝕄 :=
  iprop((bigSep Finset.univ fun k : CellIx => roundState ER (sched V) (kcell (c, k)) 0)
    ∗ (bigSep Finset.univ fun k : CellIx => iprop(atPos ER (kcell (c, k)) 0 ∅ 0 ∗ reached ER (kcell (c, k)) 0)) ∗ toks c)
/-- and what a device has of it once all have exchanged. -/
def G' (c : Dev nD) : sProp 𝕄 := iprop(∃ K, records V K ∗ positions c ∗ payToks c)

section
omit [FloatOps F]

theorem toks_of (c : Dev nD) :
    (bigSep Finset.univ fun j : DutyIx => (dutyTok ER (tokOf (c, j)).1 (tokOf (c, j)).2.1 (tokOf (c, j)).2.2 : sProp 𝕄)) ⊢ toks c := by
  rw [bigSep_option, bigSep_cellIx]
  unfold toks
  iintro ⟨H₁, H₀, H₂, H₃⟩
  isplitl [H₀]; · iexact H₀
  isplitl [H₁]; · iexact H₁
  isplitl [H₂] <;> iassumption

theorem fund_mesh : BI.own (ER (initOf meshCells meshToks)) ⊢ (|==> bigSep Finset.univ (G V) : sProp 𝕄) := by
  have hX (Φ : GSem nD τ sig → sProp 𝕄) : bigSep meshCells Φ = bigSep Finset.univ fun c : Dev nD => bigSep Finset.univ fun k : CellIx => Φ (kcell (c, k)) := by
    unfold meshCells; rw [bigSep_map, bigSep_univ_prod]; rfl
  have hT : bigSep meshToks (fun x => (dutyTok ER x.1 x.2.1 x.2.2 : sProp 𝕄)) ⊢ bigSep Finset.univ fun c : Dev nD => toks c := by
    unfold meshToks; rw [bigSep_map, bigSep_univ_prod]
    exact bigSep_mono fun c _ => toks_of c
  iintro HX
  imod (Rounds.fund ER (sched V) meshCells meshToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores -/

/-- The kernel's own semaphores. -/
abbrev osem : Bool × Fin 12 → SemLoc sig := fun k => cellSem (some k)

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(bigSep Finset.univ (fun i => semVal (sendCell c i) 0) ∗ bigSep Finset.univ (fun i => semVal (recvCell c i) 0)) := by
  unfold Pipeline.ownSems0
  rw [bigSep_univ_prod, bigSep_univ_eq_bigSepL [false, true] (by decide) (by decide), bigSepL_cons_cons, bigSepL_singleton]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨⟨HS, HV⟩, HB⟩
  isplitl [HB]; · iexact HB
  isplitl [HS] <;> iassumption

/-! ## The exchange -/

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (sched V) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched V) (kcell (c, k)) 0)
      ⊢ (|={Set.univ}=> bigSep Finset.univ fun k => iprop(∃ κ : ℕ, cellInv ER (sched V) κ (kcell (c, k))) : sProp 𝕄) from by
        rw [← bigSep_sep']
        exact (bigSep_mono fun k _ => (Rounds.body_intro ER (sched V) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The neighbour that a message connects a device with, as a rearrangement of the mesh. -/
def peerE (i : Fin 12) : Dev nD ≃ Dev nD := ⟨peer i, peer i, peer_peer i, peer_peer i⟩
def ynE : Dev nD ≃ Dev nD := ⟨yn, yn, yn_yn, yn_yn⟩
def xnE : Dev nD ≃ Dev nD := ⟨xn, xn, xn_xn, xn_xn⟩

/-- The tokens dealt to the neighbours. -/
theorem recv_around : (bigSep Finset.univ fun c : Dev nD => bigSep Finset.univ fun i : Fin 12 => (dutyTok ER (recvCell c i) 0 false : sProp 𝕄))
    = bigSep Finset.univ fun c : Dev nD => bigSep Finset.univ fun i : Fin 12 => dutyTok ER (recvCell (peer i c) i) 0 false := by
  rw [bigSep_univ_comm, bigSep_univ_comm (fun (c : Dev nD) (i : Fin 12) => (dutyTok ER (recvCell (peer i c) i) 0 false : sProp 𝕄))]
  exact bigSep_congr fun i _ => bigSep_univ_equiv (peerE i) (fun c : Dev nD => (dutyTok ER (recvCell c i) 0 false : sProp 𝕄))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ynE (fun c : Dev nD => (dutyTok ER (barCell c) 0 false : sProp 𝕄)),
    bigSep_univ_equiv xnE (fun c : Dev nD => (dutyTok ER (barCell c) 0 true : sProp 𝕄)), recv_around]
  exact BI.Entails.refl _

theorem bigSep_with_persistent {J : Type} [DecidableEq J] {S : Finset J} {R : sProp 𝕄} [BI.Persistent R] {Φ Ψ : J → sProp 𝕄}
    (h : ∀ j ∈ S, iprop(R ∗ Φ j) ⊢ Ψ j) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records V K ∗ positions c ∗ payToks c) ⊢ G' V c := by
  unfold G'
  iintro H
  iexists K; iexact H

theorem regroup :
    (bigSep Finset.univ fun c : Dev nD => iprop((bigSep Finset.univ fun k => iprop(∃ κ : ℕ, cellInv ER (sched V) κ (kcell (c, k))))
          ∗ (bigSep Finset.univ fun k => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × CellIx => iprop(∃ κ : ℕ, cellInv ER (sched V) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched V) κ (kcell ck) : sProp 𝕄))) $$ HI
  icases HK with ⟨%K, #HI⟩
  ihave Htk := (toks_around (F := F)) $$ Htok
  iapply (bigSep_with_persistent (R := records V K) fun c _ => ghost_intro V K c)
  isplitr
  · unfold records; rw [bigSep_sep']
    isplitl; · iexact HI
    iexact HR
  · unfold positions
    rw [bigSep_sep']
    isplitl [Hat]; · iexact Hat
    iexact Htk

/-- Every device's semaphores and ghost state exchanged at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credits -/

theorem bar_eq_iff {a b : Dev nD} : barCell a = barCell b ↔ a = b :=
  ⟨fun h => congrArg (fun g : GSem nD τ sig => g.1.1) h, fun h => h ▸ rfl⟩
theorem recv_eq_iff {a b : Dev nD} {i j : Fin 12} : recvCell a i = recvCell b j ↔ a = b ∧ i = j :=
  ⟨fun h => ⟨congrArg (fun g : GSem nD τ sig => g.1.1) h, by
      have h' : (SemLoc.dma (recvS i) : SemLoc sig) = .dma (recvS j) := congrArg Prod.snd h
      injection h' with h'; exact recvS_inj h'⟩,
    fun ⟨h, h'⟩ => by rw [h, h']⟩

theorem recv_ne_bar (a b : Dev nD) (i : Fin 12) : recvCell a i ≠ barCell b := fun h => by
  have h' : (SemLoc.dma (recvS i) : SemLoc sig) = .reg barS := congrArg Prod.snd h
  injection h'

theorem owedFrom_bar (d c : Dev nD) : owedFrom d 0 (barCell c) () = 0 := by
  by_contra h
  obtain ⟨j, -, e⟩ := owedFrom_pos (Nat.pos_of_ne_zero h)
  exact absurd (congrArg Prod.snd e) (by simp)
theorem owedFrom_recv (d c : Dev nD) (i : Fin 12) : owedFrom d 0 (recvCell c i) () = if d = peer i c then N else 0 := by
  unfold owedFrom
  rw [Finset.sum_apply, Finsupp.finset_sum_apply]
  have h : ∀ j : Fin 12, (if 0 ≤ j.val then tallyAt (recvCell (peer j d) j) () N else (0 : CellTallies nD τ sig Unit)) (recvCell c i) ()
      = if j = i then (if d = peer i c then N else 0) else 0 := fun j => by
    rw [if_pos (Nat.zero_le _), tallyAt_apply]
    by_cases e : j = i
    · subst e
      rw [if_pos rfl]
      by_cases e' : d = peer j c
      · rw [if_pos e', if_pos ⟨by rw [e', peer_peer], rfl⟩]
      · rw [if_neg e', if_neg fun h => e' (by rw [(recv_eq_iff.mp h.1).1, peer_peer])]
    · rw [if_neg e, if_neg fun h => e (recv_eq_iff.mp h.1).2.symm]
  rw [Finset.sum_congr rfl fun j _ => h j, Finset.sum_ite_eq' Finset.univ i, if_pos (Finset.mem_univ i)]

/-- A barrier cell is owed a unit by each neighbour, -/
theorem owed_bar (d c : Dev nD) : O₀ d (barCell c) () = (if d = xn c then 1 else 0) + (if d = yn c then 1 else 0) := by
  unfold O₀ O₁
  rw [Pi.add_apply, Finsupp.add_apply, Pi.add_apply, Finsupp.add_apply, owedFrom_bar, tallyAt_apply, tallyAt_apply, Nat.zero_add]
  congr 1
  · by_cases h : d = xn c
    · subst h; rw [xn_xn, if_pos ⟨rfl, rfl⟩, if_pos rfl]
    · rw [if_neg (fun ⟨h1, _⟩ => h (by rw [← xn_xn d]; exact congrArg xn (bar_eq_iff.mp h1).symm)), if_neg h]
  · by_cases h : d = yn c
    · subst h; rw [yn_yn, if_pos ⟨rfl, rfl⟩, if_pos rfl]
    · rw [if_neg (fun ⟨h1, _⟩ => h (by rw [← yn_yn d]; exact congrArg yn (bar_eq_iff.mp h1).symm)), if_neg h]
/-- a receive cell a transfer's credit by the one that its message comes from. -/
theorem owed_recv (d c : Dev nD) (i : Fin 12) : O₀ d (recvCell c i) () = if d = peer i c then N else 0 := by
  unfold O₀ O₁
  rw [Pi.add_apply, Finsupp.add_apply, Pi.add_apply, Finsupp.add_apply, owedFrom_recv, tallyAt_ne_cell (recv_ne_bar _ _ _), tallyAt_ne_cell (recv_ne_bar _ _ _),
    Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]
theorem launch_recv (c : Dev nD) (i : Fin 12) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer i c) fun _ => N, if_pos (Finset.mem_univ _)]

theorem creds (c : Dev nD) :
    (Pipeline.launchCred O₀ c : sProp 𝕄)
      ⊢ iprop(cred (tallyAt (barCell c) () 2) ∗ bigSep Finset.univ fun i => cred (tallyAt (recvCell c i) () N)) := by
  unfold Pipeline.launchCred
  rw [bigSep_univ_at _ (SemLoc.reg barS), launch_bar]
  refine sep_mono_right ?_
  have hi : Function.Injective (fun i : Fin 12 => (SemLoc.dma (recvS i) : SemLoc sig)) := fun i j h => by injection h with h; exact recvS_inj h
  refine (bigSep_subset (t := Finset.univ.map ⟨_, hi⟩) fun s hs => ?_).trans ?_
  · obtain ⟨i, -, rfl⟩ := Finset.mem_map.mp hs
    exact Finset.mem_erase.mpr ⟨by simp, Finset.mem_univ _⟩
  · rw [bigSep_map]
    exact bigSep_mono fun i _ => Entails.of_eq (congrArg (fun t => (cred t : sProp 𝕄)) (launch_recv c i))

end

end Cert.KernelIdealProof

end
-- ==== Proof.Launch.lean ====
/-
# The launch

From a memory with zero counters: what the launch copies into the staging buffers, the kernel's run between them, and what
the arrays hold at the end.
-/
module

public import proofs.«01_k».proof.Proof.Ghost
public import proofs.«01_k».proof.Proof.Gen.KernelIdeal.Points
public import Idealize.ShloMosaic.Lib.Pipeline.CollectiveSegs
public import Idealize.ShloMosaic.Lib.Quiescent

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch. -/
def s₀ : MemSt nD τ sig (Elt F) := ⟨m, fun _ => 0, ρ⟩

/-- The staging buffers before the body. -/
def raw : Raw F where
  x c := (win0_0.blk (0 : Fin 1)).view.read (Elt F) ((s₀ m ρ).mem ((c : Thread nD τ).loc main_arg0))
  win k c := match k with
    | 0 => (win0_1.blk (0 : Fin 1)).view.read (Elt F) ((s₀ m ρ).mem ((c : Thread nD τ).loc main_arg1))
    | 1 => (win0_3.blk (0 : Fin 1)).view.read (Elt F) ((s₀ m ρ).mem ((c : Thread nD τ).loc main_arg3))
    | 2 => (win0_5.blk (0 : Fin 1)).view.read (Elt F) ((s₀ m ρ).mem ((c : Thread nD τ).loc main_arg5))
  wout k c := match k with
    | 0 => (win0_2.blk (0 : Fin 1)).view.read (Elt F) ((s₀ m ρ).mem ((c : Thread nD τ).loc main_arg2))
    | 1 => (win0_4.blk (0 : Fin 1)).view.read (Elt F) ((s₀ m ρ).mem ((c : Thread nD τ).loc main_arg4))
    | 2 => (win0_6.blk (0 : Fin 1)).view.read (Elt F) ((s₀ m ρ).mem ((c : Thread nD τ).loc main_arg6))

/-- The result on device `c`. -/
abbrev out (c : Dev nD) : FVec F S128x128 .f32 := result (raw m ρ).start c
/-- The messages. -/
abbrev msgs : Dev nD → Fin 12 → SlotVal F := msg (raw m ρ).start

/-- What device `c`'s body starts from, the buffers apart. -/
def start (c : Dev nD) : sProp 𝕄 :=
  iprop(G' (msgs m ρ) c ∗ (cred (tallyAt (barCell c) () 2) ∗ bigSep Finset.univ fun i => cred (tallyAt (recvCell c i) () N)) ∗ levAts L lv)

def Φ₀ (c : Dev nD) : sProp 𝕄 := iprop(start m ρ c ∗ scratch c)
/-- After the body: every cell closed with its counter at zero, and the scratch buffers whole again. -/
def Φ₁ (c : Dev nD) : sProp 𝕄 :=
  iprop(semVal (barCell c) 0 ∗ (bigSep Finset.univ (fun i => semVal (sendCell c i) 0) ∗ bigSep Finset.univ (fun i => semVal (recvCell c i) 0)) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (raw m ρ).x c
    | ⟨1, _⟩ => (raw m ρ).win 0 c
    | ⟨2, _⟩ => (raw m ρ).wout 0 c
    | ⟨3, _⟩ => (raw m ρ).win 1 c
    | ⟨4, _⟩ => (raw m ρ).wout 1 c
    | ⟨5, _⟩ => (raw m ρ).win 2 c
    | ⟨6, _⟩ => (raw m ρ).wout 2 c
    | ⟨7, _⟩ => out m ρ c
    | ⟨_ + 8, h⟩ => absurd h (Nat.not_lt.2 (Nat.le_add_left _ _))
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

omit [FloatOps F] in
theorem pending_all (c : Dev nD) : bigSep Finset.univ (fun i => pending (F := F) c i)
    = iprop(bigSep Finset.univ (fun i => source c i) ∗ bigSep Finset.univ (fun i => dutyTok ER (sendCell c i) 0 false)
      ∗ bigSep Finset.univ (fun i => dutyTok ER (recvCell (peer i c) i) 0 false)
      ∗ bigSep Finset.univ (fun i => atPos ER (sendCell c i) 0 ∅ 0) ∗ bigSep Finset.univ (fun i => atPos ER (recvCell c i) 0 ∅ 0)
      ∗ bigSep Finset.univ (fun i => cred (tallyAt (recvCell c i) () N))) := by
  unfold pending; simp only [bigSep_sep']
omit [FloatOps F] in
theorem done_all (c : Dev nD) : bigSep Finset.univ (fun i => done (F := F) c i)
    = iprop(bigSep Finset.univ (fun i => source c i) ∗ bigSep Finset.univ (fun i => landing c i)
      ∗ bigSep Finset.univ (fun i => semVal (sendCell c i) 0) ∗ bigSep Finset.univ (fun i => semVal (recvCell c i) 0)) := by
  unfold done; simp only [bigSep_sep']

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t0_0.succ ∗ stg c cc0_stg0_0 ((raw m ρ).x c)
    ∗ stg c cc0_stg1_0 ((raw m ρ).win 0 c) ∗ stg c cc0_stg2_0 ((raw m ρ).wout 0 c)
    ∗ stg c cc0_stg3_0 ((raw m ρ).win 1 c) ∗ stg c cc0_stg4_0 ((raw m ρ).wout 1 c)
    ∗ stg c cc0_stg5_0 ((raw m ρ).win 2 c) ∗ stg c cc0_stg6_0 ((raw m ρ).wout 2 c)
    ∗ stg c cc0_stg7_0 (out m ρ c))

def bodyPre (c : Dev nD) : sProp 𝕄 :=
  iprop(Φ₀ m ρ c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

/-- What each staging buffer holds when the body starts. -/
theorem inputs_of (c : Dev nD) :
    iprop((∃ d, stg c cc0_stg0_0 ((dats m ρ 0 c).before (0 : Fin 8) t0_0 d))
      ∗ (∃ d, stg c cc0_stg1_0 ((dats m ρ 0 c).before (1 : Fin 8) t0_0 d))
      ∗ (∃ d, stg c cc0_stg2_0 ((dats m ρ 0 c).before (2 : Fin 8) t0_0 d))
      ∗ (∃ d, stg c cc0_stg3_0 ((dats m ρ 0 c).before (3 : Fin 8) t0_0 d))
      ∗ (∃ d, stg c cc0_stg4_0 ((dats m ρ 0 c).before (4 : Fin 8) t0_0 d))
      ∗ (∃ d, stg c cc0_stg5_0 ((dats m ρ 0 c).before (5 : Fin 8) t0_0 d))
      ∗ (∃ d, stg c cc0_stg6_0 ((dats m ρ 0 c).before (6 : Fin 8) t0_0 d))
      ∗ (∃ d, stg c cc0_stg7_0 ((dats m ρ 0 c).before (7 : Fin 8) t0_0 d)))
      ⊢ iprop(inputs (raw m ρ) c ∗ ∃ f : (cc0_stg7_0 : Ref sig .tc).ty.Contents (Elt F), buf c outM f) := by
  iintro ⟨⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, -, H7⟩⟩
  have e0 : g0 = (raw m ρ).x c := by rw [h0]; unfold Dat.before; rw [if_pos (fetch0_0 t0_0)]; rfl
  have e1 : g1 = (raw m ρ).win 0 c := by rw [h1]; unfold Dat.before; rw [if_pos (fetch0_1 t0_0)]; rfl
  have e2 : g2 = (raw m ρ).wout 0 c := by rw [h2]; unfold Dat.before; rw [if_pos (fetch0_2 t0_0)]; rfl
  have e3 : g3 = (raw m ρ).win 1 c := by rw [h3]; unfold Dat.before; rw [if_pos (fetch0_3 t0_0)]; rfl
  have e4 : g4 = (raw m ρ).wout 1 c := by rw [h4]; unfold Dat.before; rw [if_pos (fetch0_4 t0_0)]; rfl
  have e5 : g5 = (raw m ρ).win 2 c := by rw [h5]; unfold Dat.before; rw [if_pos (fetch0_5 t0_0)]; rfl
  have e6 : g6 = (raw m ρ).wout 2 c := by rw [h6]; unfold Dat.before; rw [if_pos (fetch0_6 t0_0)]; rfl
  subst e0 e1 e2 e3 e4 e5 e6
  unfold inputs weights
  isplitr [H7]
  · isplitl [H0]; · iexact H0
    isplitl [H1 H2]
    · isplitl [H1]; · iexact H1
      iexact H2
    isplitl [H3 H4]
    · isplitl [H3]; · iexact H3
      iexact H4
    isplitl [H5]; · iexact H5
    iexact H6
  · iexists g7; iexact H7

theorem outputs_of (c : Dev nD) :
    iprop(inputs (raw m ρ) c ∗ buf c outM (out m ρ c))
      ⊢ iprop(stg c cc0_stg0_0 ((raw m ρ).x c)
    ∗ stg c cc0_stg1_0 ((raw m ρ).win 0 c) ∗ stg c cc0_stg2_0 ((raw m ρ).wout 0 c)
    ∗ stg c cc0_stg3_0 ((raw m ρ).win 1 c) ∗ stg c cc0_stg4_0 ((raw m ρ).wout 1 c)
    ∗ stg c cc0_stg5_0 ((raw m ρ).win 2 c) ∗ stg c cc0_stg6_0 ((raw m ρ).wout 2 c)
    ∗ stg c cc0_stg7_0 (out m ρ c)) := by
  unfold inputs weights
  iintro ⟨⟨H0, ⟨H1, H2⟩, ⟨H3, H4⟩, H5, H6⟩, H7⟩
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  iexists _; isplitr; swap; · iexact H7
  ipureintro; rfl

set_option maxHeartbeats 800000 in
theorem run_body (c : Dev nD) : bodyPre m ρ c ⊢ WP c body₀ fun _ => bodyPost m ρ c := by
  unfold bodyPre Φ₀ start G' payToks
  iintro ⟨⟨⟨⟨%K, #HR, Hat, Htb₁, Htb₂, Hts, Htr⟩, ⟨Hcb, Hcr⟩, #Hlev⟩, Hscr⟩, Ho, Hin⟩
  ihave Hin := (inputs_of m ρ c) $$ Hin
  icases Hin with ⟨Hin, ⟨%f, Hout⟩⟩
  ihave Hscr := (scratch_slots c) $$ Hscr
  icases Hscr with ⟨Hsrc, Hlan⟩
  unfold positions
  ihave Hat := (Entails.of_eq (bigSep_cellIx fun k => (atPos ER (kcell (c, k)) 0 ∅ 0 : sProp 𝕄))) $$ Hat
  icases Hat with ⟨Hpb, Hps, Hpr⟩
  unfold Dat.owesAt Pipeline.owesWithin
  icases Ho with ⟨%W, %hW, HO⟩
  iapply (run_whole K (raw m ρ) c f)
  isplitr
  · unfold known; isplitr; · iexact HR
    iexact Hlev
  isplitl [HO]; · iexists W; iexact HO
  isplitl [Htb₁ Htb₂ Hpb Hcb]
  · isplitl [Htb₁]; · iexact Htb₁
    isplitl [Htb₂]; · iexact Htb₂
    isplitl [Hpb]; · iexact Hpb
    iexact Hcb
  isplitl [Hlan]; · iexact Hlan
  isplitl [Hsrc Hts Htr Hps Hpr Hcr]
  · rw [pending_all]
    isplitl [Hsrc]; · iexact Hsrc
    isplitl [Hts]; · iexact Hts
    isplitl [Htr]; · iexact Htr
    isplitl [Hps]; · iexact Hps
    isplitl [Hpr]; · iexact Hpr
    iexact Hcr
  isplitl [Hin]; · iexact Hin
  isplitl [Hout]; · iexact Hout
  iintro ⟨⟨%W', HO⟩, Hzb, Hd, Hin, Hout⟩
  ihave Hd := (Entails.of_eq (done_all c)) $$ Hd
  icases Hd with ⟨Hsrc, Hlan, Hzs, Hzr⟩
  unfold bodyPost Φ₁ Dat.owesAt Pipeline.owesWithin
  isplitl [Hzb Hzs Hzr Hsrc Hlan]
  · isplitl [Hzb]; · iexact Hzb
    isplitl [Hzs Hzr]
    · isplitl [Hzs] <;> iassumption
    iapply (slots_scratch c fun b => m ((c : Thread nD τ).loc b))
    isplitl [Hsrc] <;> iassumption
  isplitl [HO]
  · iexists W'
    isplitr; · ipureintro; exact fun _ _ => Or.inl trivial
    iexact HO
  iapply (outputs_of m ρ c)
  isplitl [Hin]; · iexact Hin
  iexact Hout

set_option maxRecDepth 8000 in
/-- The library's obligation about the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact run_body m ρ c

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (msgs m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution of the module
    terminates, and leaves every device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (msgs m ρ)) (G' := G' (msgs m ρ)) (u₀ := u₀)
    (hu₀ := by
      unfold u₀
      iintro Hu
      ihave H := (ownU_pair _ _) $$ Hu
      icases H with ⟨HP, HX⟩
      imod (fund_mesh (msgs m ρ)) $$ HX with HG
      imodintro
      isplitl [HP] <;> iassumption)
    (hglob := glob (msgs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Final.lean ====
/-
# What the arrays hold at the end

The launch's result, read in plain contents: every argument array as it was, and the result array at `result` of the
argument arrays.
-/
module

public import proofs.«01_k».proof.Proof.Launch

@[expose] public section

noncomputable section

namespace Cert.KernelIdealProof

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The argument arrays, as the layers' inputs. -/
def given : Start F where
  x c := m ((c : Thread nD τ).loc main_arg0)
  win k c := match k with
    | 0 => m ((c : Thread nD τ).loc main_arg1)
    | 1 => m ((c : Thread nD τ).loc main_arg3)
    | 2 => m ((c : Thread nD τ).loc main_arg5)
  wout k c := match k with
    | 0 => m ((c : Thread nD τ).loc main_arg2)
    | 1 => m ((c : Thread nD τ).loc main_arg4)
    | 2 => m ((c : Thread nD τ).loc main_arg6)

/-- A cast to the same shape changes nothing. -/
theorem shapeCast_same {α : Type} {s : Shape} (v : s.Idx → α) (h : s.ShapeCasts s) : shapeCast s v h = v :=
  funext fun i => congrArg v (Shape.reshapeEquiv_self h i)

omit [FloatOps F] in
/-- A window that is a whole array at index zero reads the array. -/
theorem read_staged (b : Ref sig .tc) (i : Fin b.ty.shape.rank → ℕ) (hi : ∀ a, i a = 0)
    (inb : ∀ a, i a * b.ty.shape.size a + b.ty.shape.size a ≤ b.ty.shape.size a) (f : b.ty.Contents (Elt F)) :
    ((Memref.whole b).access (Rect.unit (fun a => i a * b.ty.shape.size a) b.ty.shape.size inb)).read (Elt F) f = f :=
  Memref.read_access_unit_zero (Elt F) b (funext fun a => by rw [hi a, Nat.zero_mul]) inb f

/-- Staged, loaded and cast, the activations are what the array holds, -/
theorem start_x (c : Dev nD) : (raw m ρ).start.x c = (given m).x c := by
  show ldX (xM.view.readAt (Elt F) rX.toLoadRect ((raw m ρ).x c)) = _
  unfold ldX
  rw [shapeCast_same]
  refine ((Memref.readAt_unit_zero (Elt F) cc0_stg0_0 hz _ _).trans ?_)
  show (win0_0.blk (0 : Fin 1)).view.read (Elt F) (m ((c : Thread nD τ).loc main_arg0)) = m ((c : Thread nD τ).loc main_arg0)
  exact read_staged (F := F) main_arg0 (win0_0.index (0 : Fin 1)) (by decide) _ (m ((c : Thread nD τ).loc main_arg0))

/-- the weights of the first products, -/
theorem start_win (k : Fin 3) (c : Dev nD) : (raw m ρ).start.win k c = (given m).win k c := by
  show ldIn ((winM k).view.readAt (Elt F) rIn.toLoadRect ((raw m ρ).win k c)) = _
  unfold ldIn
  rw [shapeCast_same]
  match k with
  | 0 =>
    refine (Memref.readAt_unit_zero (Elt F) cc0_stg1_0 hz _ ((raw m ρ).win 0 c)).trans ?_
    show (win0_1.blk (0 : Fin 1)).view.read (Elt F) (m ((c : Thread nD τ).loc main_arg1)) = m ((c : Thread nD τ).loc main_arg1)
    exact read_staged (F := F) main_arg1 (win0_1.index (0 : Fin 1)) (by decide) _ (m ((c : Thread nD τ).loc main_arg1))
  | 1 =>
    refine (Memref.readAt_unit_zero (Elt F) cc0_stg3_0 hz _ ((raw m ρ).win 1 c)).trans ?_
    show (win0_3.blk (0 : Fin 1)).view.read (Elt F) (m ((c : Thread nD τ).loc main_arg3)) = m ((c : Thread nD τ).loc main_arg3)
    exact read_staged (F := F) main_arg3 (win0_3.index (0 : Fin 1)) (by decide) _ (m ((c : Thread nD τ).loc main_arg3))
  | 2 =>
    refine (Memref.readAt_unit_zero (Elt F) cc0_stg5_0 hz _ ((raw m ρ).win 2 c)).trans ?_
    show (win0_5.blk (0 : Fin 1)).view.read (Elt F) (m ((c : Thread nD τ).loc main_arg5)) = m ((c : Thread nD τ).loc main_arg5)
    exact read_staged (F := F) main_arg5 (win0_5.index (0 : Fin 1)) (by decide) _ (m ((c : Thread nD τ).loc main_arg5))

/-- and of the second. -/
theorem start_wout (k : Fin 3) (c : Dev nD) : (raw m ρ).start.wout k c = (given m).wout k c := by
  show ldOut ((woutM k).view.readAt (Elt F) rOut.toLoadRect ((raw m ρ).wout k c)) = _
  unfold ldOut
  rw [shapeCast_same]
  match k with
  | 0 =>
    refine (Memref.readAt_unit_zero (Elt F) cc0_stg2_0 hz _ ((raw m ρ).wout 0 c)).trans ?_
    show (win0_2.blk (0 : Fin 1)).view.read (Elt F) (m ((c : Thread nD τ).loc main_arg2)) = m ((c : Thread nD τ).loc main_arg2)
    exact read_staged (F := F) main_arg2 (win0_2.index (0 : Fin 1)) (by decide) _ (m ((c : Thread nD τ).loc main_arg2))
  | 1 =>
    refine (Memref.readAt_unit_zero (Elt F) cc0_stg4_0 hz _ ((raw m ρ).wout 1 c)).trans ?_
    show (win0_4.blk (0 : Fin 1)).view.read (Elt F) (m ((c : Thread nD τ).loc main_arg4)) = m ((c : Thread nD τ).loc main_arg4)
    exact read_staged (F := F) main_arg4 (win0_4.index (0 : Fin 1)) (by decide) _ (m ((c : Thread nD τ).loc main_arg4))
  | 2 =>
    refine (Memref.readAt_unit_zero (Elt F) cc0_stg6_0 hz _ ((raw m ρ).wout 2 c)).trans ?_
    show (win0_6.blk (0 : Fin 1)).view.read (Elt F) (m ((c : Thread nD τ).loc main_arg6)) = m ((c : Thread nD τ).loc main_arg6)
    exact read_staged (F := F) main_arg6 (win0_6.index (0 : Fin 1)) (by decide) _ (m ((c : Thread nD τ).loc main_arg6))

theorem start_given : (raw m ρ).start = given m := by
  have h (I J : Start F) (hx : I.x = J.x) (hi : I.win = J.win) (ho : I.wout = J.wout) : I = J := by
    cases I; cases J; cases hx; cases hi; cases ho; rfl
  exact h _ _ (funext (start_x m ρ)) (funext fun k => funext (start_win m ρ k)) (funext fun k => funext (start_wout m ρ k))

/-- An argument array is as it was. -/
theorem finalA_arg (c : Dev nD) (w : Fin cfg0.W) (hw : w ≠ 7) :
    finalA m ρ c w = m ((cfg0.win w).arr.view.loc (c : Thread nD τ)) := by
  refine (dats (F := F) m ρ 0 c).arrAt_in w ?_ _
  revert w; decide

/-- The result array. -/
theorem finalA_out (c : Dev nD) : (win0_7.blk (0 : Fin 1)).view.read (Elt F) (finalA m ρ c (7 : Fin 8)) = out m ρ c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

/-- It holds the third layer's activations. -/
theorem finalA_result (c : Dev nD) : finalA m ρ c (7 : Fin 8) = result (given m) c := by
  have h := finalA_out m ρ c
  unfold out at h
  rw [start_given] at h
  exact (read_staged (F := F) main_v1 (win0_7.index (0 : Fin 1)) (by decide) _ (finalA m ρ c (7 : Fin 8))).symm.trans h

/-- On four devices, for any float values, from any memory with zero counters: every weakly fair execution terminates,
    leaves the result array at the third layer's activations and every argument array as it was, and all counters at zero. -/
theorem run : θ_run defs (onTc (τ := τ) (main (F := F))) ⟨m, fun _ => 0, ρ⟩ (fun r => (∀ c : Dev nD,
      r.2.mem ((c.tc : Thread nD τ).loc main_v1) = result (given m) c
      ∧ ∀ w : Fin cfg0.W, w ≠ 7 → r.2.mem ((cfg0.win w).arr.view.loc (c : Thread nD τ)) = m ((cfg0.win w).arr.view.loc (c : Thread nD τ)))
    ∧ r.2.sem = fun _ => 0) :=
  (θ_run defs _ _).mono (fun _ h => ⟨fun c => ⟨(h.1 c (7 : Fin 8)).trans (finalA_result m ρ c),
    fun w hw => (h.1 c w).trans (finalA_arg m ρ c w hw)⟩, h.2⟩) (run_main m ρ)

end Cert.KernelIdealProof

end
-- ==== Proof.Entry.lean ====
/-
# The kernel's pieces, entry by entry

Over the extended reals: rounding to the narrow format changes nothing, a product's entry is a sum of products, and a chunk's
entry is the block's, further along.
-/
module

public import proofs.«01_k».proof.Proof.Messages
public import Idealize.ShloMosaic.Lib.Pointwise

@[expose] public section

noncomputable section

namespace Cert.KernelIdealProof

open Cert.KernelIdeal Cert.KernelIdeal.Gen
open Idealize.ShloMosaic Idealize.SL.Sem

/-- Position `l` of half `e` among `256`. -/
abbrev halfIx (e : Fin 2) (l : Fin 128) : Fin 256 := ⟨128 * e.val + l.val, by omega⟩

theorem mm_apply (a b : FVec Ideal S128x128 .f32) (i j : Fin 128) : mm a b (ix2 i j) = ∑ l : Fin 128, a (ix2 i l) * b (ix2 l j) := by
  pointwise [mm]

theorem ofSlot_toSlot (v : FVec Ideal S128x128 .f32) : ofSlot (toSlot v) = v := by
  funext p; idx_vars p
  pointwise [ofSlot, toSlot]

theorem cols_apply (e : Fin 2) (w : FVec Ideal S128x256 .f32) (i j : Fin 128) : cols e w (ix2 i j) = w (ix2 i (halfIx e j)) := by
  fin_cases e <;> pointwise [cols, halfIx]

theorem rows_apply (e : Fin 2) (w : FVec Ideal S256x128 .f32) (i j : Fin 128) : rows e w (ix2 i j) = w (ix2 (halfIx e i) j) := by
  fin_cases e <;> pointwise [rows, halfIx]

theorem relu_apply (v : FVec Ideal S128x128 .f32) (p : S128x128.Idx) : relu v p = max (v p) 0 := by
  pointwise [relu]

variable (I : Start Ideal) (k : Fin 3) (a : Dev nD → FVec Ideal S128x128 .f32)

/-- A part of the first product, -/
theorem up_apply (e : Fin 2) (c : Dev nD) (i h : Fin 128) :
    ofSlot (upOf I k e a c) (ix2 i h) = ∑ l : Fin 128, a c (ix2 i l) * I.win k c (ix2 l (halfIx e h)) := by
  unfold upOf up
  rw [ofSlot_toSlot, mm_apply]
  simp only [cols_apply]

/-- of the second, -/
theorem down_apply (e : Fin 2) (c : Dev nD) (i j : Fin 128) :
    ofSlot (downOf I k e a c) (ix2 i j)
      = ∑ h : Fin 128, max (ofSlot (upOf I k e a c) (ix2 i h) + ofSlot (upOf I k e a (yn c)) (ix2 i h)) 0 * I.wout k c (ix2 (halfIx e h) j) := by
  unfold downOf down
  rw [ofSlot_toSlot, mm_apply]
  simp only [rows_apply, relu_apply]
  rfl

/-- and the sum of the four parts of the second. -/
theorem after_apply (c : Dev nD) (p : S128x128.Idx) :
    after I k a c p = (ofSlot (downOf I k 0 a c) p + ofSlot (downOf I k 1 a c) p)
      + (ofSlot (downOf I k 0 a (xn c)) p + ofSlot (downOf I k 1 a (xn c)) p) := rfl

end Cert.KernelIdealProof

end
-- ==== Proof.Expected.lean ====
/-
# What the reference computes

One layer of the reference, entry by entry, and its result as three layers.
-/
module

public import proofs.«01_k».proof.Proof.Gen.ReferenceIdeal.Run
public import Idealize.ShloMosaic.Lib.Pointwise

@[expose] public section

noncomputable section

namespace Cert.ReferenceIdealProof

open Cert.ReferenceIdeal Cert.ReferenceIdeal.Gen
open Idealize.ShloMosaic Idealize.SL.Sem

variable {F : FTy → Type} [FloatOps F]

/-- One layer: product, negative entries to zero, product. -/
def layer (x : FVec F S128x256 .f32) (win : FVec F S256x512 .f32) (wout : FVec F S512x256 .f32) : FVec F S128x256 .f32 :=
  Host.dotGeneral dot_S128x512_S512x256_S128x256_1_0_0_1_n_n none
    (maximumf (Host.dotGeneral dot_S128x256_S256x512_S128x512_1_0_0_1_n_n none x win)
      (broadcastInDim S128x512 ![] Facts₀.bcast_S_S128x512 (constant S_ .f32 0x00000000#32))) wout

/-- Three layers. -/
def result (x : FVec F S128x256 .f32) (win : Fin 3 → FVec F S256x512 .f32) (wout : Fin 3 → FVec F S512x256 .f32) : FVec F S128x256 .f32 :=
  layer (layer (layer x (win 0) (wout 0)) (win 1) (wout 1)) (win 2) (wout 2)

theorem layer_apply (x : FVec Ideal S128x256 .f32) (win : FVec Ideal S256x512 .f32) (wout : FVec Ideal S512x256 .f32) (i : Fin 128) (j : Fin 256) :
    layer x win wout (ix2 i j) = ∑ h : Fin 512, max (∑ l : Fin 256, x (ix2 i l) * win (ix2 l h)) 0 * wout (ix2 h j) := by
  pointwise [layer]

end Cert.ReferenceIdealProof

end
-- ==== Proof.Equation.lean ====
/-
# One layer over the mesh is one layer of the reference

If the devices hold their blocks of the activations and of the weights, they hold their blocks of the next activations
after the layer. Device `(x, y)` has the rows of the first product's weights from `128 y` and their columns from `256 x`, so
the two parts along `y` are the two halves of the sum over `256`, and the four parts, two of its own and two of the
neighbour along `x`, are the four quarters of the sum over `512`. Only the order and the grouping of sums differ.
-/
module

public import proofs.«01_k».proof.Proof.Entry
public import proofs.«01_k».proof.Proof.Expected
public import Idealize.ShloMosaic.Lib.Layout

@[expose] public section

noncomputable section

namespace Cert.KernelIdealProof

open Cert.KernelIdeal Cert.KernelIdeal.Gen
open Idealize.ShloMosaic Idealize.SL.Sem

/-! ## Coordinates -/

/-- The two coordinates of a device. -/
def xOf (c : Dev nD) : Fin 2 := ⟨c.val / 2, by have : c.val < 4 := c.isLt; omega⟩
def yOf (c : Dev nD) : Fin 2 := ⟨c.val % 2, by omega⟩

theorem xOf_yn (c : Dev nD) : xOf (yn c) = xOf c := by revert c; decide
theorem yOf_yn (c : Dev nD) : yOf (yn c) = 1 - yOf c := by revert c; decide
theorem xOf_xn (c : Dev nD) : xOf (xn c) = 1 - xOf c := by revert c; decide
theorem yOf_xn (c : Dev nD) : yOf (xn c) = yOf c := by revert c; decide

/-- Position `h` of half `x` among `512`. -/
abbrev wideIx (x : Fin 2) (h : Fin 256) : Fin 512 := ⟨256 * x.val + h.val, by omega⟩

/-! ## Sums in halves -/

theorem sum_halves (f : Fin 256 → EReal) (y : Fin 2) :
    (∑ l : Fin 128, f (halfIx y l)) + ∑ l : Fin 128, f (halfIx (1 - y) l) = ∑ l, f l := by
  have h : ∑ l, f l = (∑ l : Fin 128, f (halfIx 0 l)) + ∑ l : Fin 128, f (halfIx 1 l) :=
    (Fin.sum_univ_add (a := 128) (b := 128) f).trans (congrArg₂ (· + ·)
      (Finset.sum_congr rfl fun l _ => congrArg f (Fin.ext (by show l.val = 128 * 0 + l.val; omega)))
      (Finset.sum_congr rfl fun l _ => congrArg f (Fin.ext (by show 128 + l.val = 128 * 1 + l.val; omega))))
  rw [h]
  fin_cases y
  · rfl
  · exact add_comm _ _

theorem sum_wide (f : Fin 512 → EReal) (x : Fin 2) :
    (∑ h : Fin 256, f (wideIx x h)) + ∑ h : Fin 256, f (wideIx (1 - x) h) = ∑ h, f h := by
  have h : ∑ l, f l = (∑ l : Fin 256, f (wideIx 0 l)) + ∑ l : Fin 256, f (wideIx 1 l) :=
    (Fin.sum_univ_add (a := 256) (b := 256) f).trans (congrArg₂ (· + ·)
      (Finset.sum_congr rfl fun l _ => congrArg f (Fin.ext (by show l.val = 256 * 0 + l.val; omega)))
      (Finset.sum_congr rfl fun l _ => congrArg f (Fin.ext (by show 256 + l.val = 256 * 1 + l.val; omega))))
  rw [h]
  fin_cases x
  · rfl
  · exact add_comm _ _

/-! ## Blocks -/

/-- Device `c`'s block of the activations, -/
abbrev actBlock (A : FVec Ideal ⟨2, ![128, 256]⟩ .f32) (c : Dev nD) : FVec Ideal S128x128 .f32 :=
  Layout.blockN ⟨2, ![128, 128]⟩ ⟨2, ![128, 256]⟩ (Layout.meshBlock [2, 2] ![[], [1]] c) A
/-- of the weights of a first product, -/
abbrev winBlock (W : FVec Ideal ⟨2, ![256, 512]⟩ .f32) (c : Dev nD) : FVec Ideal S128x256 .f32 :=
  Layout.blockN ⟨2, ![128, 256]⟩ ⟨2, ![256, 512]⟩ (Layout.meshBlock [2, 2] ![[1], [0]] c) W
/-- and of a second one. -/
abbrev woutBlock (O : FVec Ideal ⟨2, ![512, 256]⟩ .f32) (c : Dev nD) : FVec Ideal S256x128 .f32 :=
  Layout.blockN ⟨2, ![256, 128]⟩ ⟨2, ![512, 256]⟩ (Layout.meshBlock [2, 2] ![[0], [1]] c) O

theorem actBlock_apply (A : FVec Ideal ⟨2, ![128, 256]⟩ .f32) (c : Dev nD) (i j : Fin 128) :
    actBlock A c (ix2 i j) = A (ix2 i (halfIx (yOf c) j)) := by
  refine congrArg A ?_
  funext b; apply Fin.ext
  fin_cases c <;> fin_cases b <;> simp [Layout.TilesN.idx, Layout.meshLin, Layout.meshCoord, Layout.cutSize, ix2, yOf]

theorem winBlock_apply (W : FVec Ideal ⟨2, ![256, 512]⟩ .f32) (c : Dev nD) (i : Fin 128) (j : Fin 256) :
    winBlock W c (ix2 i j) = W (ix2 (halfIx (yOf c) i) (wideIx (xOf c) j)) := by
  refine congrArg W ?_
  funext b; apply Fin.ext
  fin_cases c <;> fin_cases b <;> simp [Layout.TilesN.idx, Layout.meshLin, Layout.meshCoord, Layout.cutSize, ix2, yOf, xOf]

theorem woutBlock_apply (O : FVec Ideal ⟨2, ![512, 256]⟩ .f32) (c : Dev nD) (i : Fin 256) (j : Fin 128) :
    woutBlock O c (ix2 i j) = O (ix2 (wideIx (xOf c) i) (halfIx (yOf c) j)) := by
  refine congrArg O ?_
  funext b; apply Fin.ext
  fin_cases c <;> fin_cases b <;> simp [Layout.TilesN.idx, Layout.meshLin, Layout.meshCoord, Layout.cutSize, ix2, yOf, xOf]

/-! ## The layer -/

section
variable (I : Start Ideal) (k : Fin 3) (a : Dev nD → FVec Ideal S128x128 .f32)
  (A : FVec Ideal ⟨2, ![128, 256]⟩ .f32) (W : FVec Ideal ⟨2, ![256, 512]⟩ .f32) (O : FVec Ideal ⟨2, ![512, 256]⟩ .f32)
  (ha : ∀ c, a c = actBlock A c) (hW : ∀ c, I.win k c = winBlock W c) (hO : ∀ c, I.wout k c = woutBlock O c)

include ha hW in
/-- A device's part of the first product and its neighbour's: the whole sum. -/
theorem up_sum (e : Fin 2) (c : Dev nD) (i h : Fin 128) :
    ofSlot (upOf I k e a c) (ix2 i h) + ofSlot (upOf I k e a (yn c)) (ix2 i h)
      = ∑ l : Fin 256, A (ix2 i l) * W (ix2 l (wideIx (xOf c) (halfIx e h))) := by
  simp only [up_apply, ha, hW, actBlock_apply, winBlock_apply, yOf_yn, xOf_yn]
  exact sum_halves (fun l => A (ix2 i l) * W (ix2 l (wideIx (xOf c) (halfIx e h)))) (yOf c)

/-- One term of the second product's sum. -/
def term (i : Fin 128) (j : Fin 256) (h : Fin 512) : EReal := max (∑ l : Fin 256, A (ix2 i l) * W (ix2 l h)) 0 * O (ix2 h j)

include ha hW hO in
/-- The two parts of the second product that a device computes: one half of the sum. -/
theorem down_sum (c : Dev nD) (i j : Fin 128) :
    ofSlot (downOf I k 0 a c) (ix2 i j) + ofSlot (downOf I k 1 a c) (ix2 i j)
      = ∑ h : Fin 256, term A W O i (halfIx (yOf c) j) (wideIx (xOf c) h) := by
  simp only [down_apply, up_sum I k a A W ha hW, hO, woutBlock_apply]
  exact sum_halves (fun h => term A W O i (halfIx (yOf c) j) (wideIx (xOf c) h)) 0

include ha hW hO in
/-- After the layer the devices hold the blocks of the reference's layer. -/
theorem after_block (c : Dev nD) : after I k a c = actBlock (Cert.ReferenceIdealProof.layer A W O) c := by
  funext p; idx_vars p
  rw [after_apply, down_sum I k a A W O ha hW hO, down_sum I k a A W O ha hW hO, actBlock_apply, Cert.ReferenceIdealProof.layer_apply,
    xOf_xn, yOf_xn]
  exact sum_wide _ _

end

/-! ## The three layers -/

theorem result_block (I : Start Ideal) (X : FVec Ideal ⟨2, ![128, 256]⟩ .f32) (W : Fin 3 → FVec Ideal ⟨2, ![256, 512]⟩ .f32)
    (O : Fin 3 → FVec Ideal ⟨2, ![512, 256]⟩ .f32) (hX : ∀ c, I.x c = actBlock X c) (hW : ∀ k c, I.win k c = winBlock (W k) c)
    (hO : ∀ k c, I.wout k c = woutBlock (O k) c) (c : Dev nD) :
    result I c = actBlock (Cert.ReferenceIdealProof.result X W O) c :=
  after_block I 2 _ _ _ _ (after_block I 1 _ _ _ _ (after_block I 0 _ _ _ _ hX (hW 0) (hO 0)) (hW 1) (hO 1)) (hW 2) (hO 2) c

end Cert.KernelIdealProof

end
-- ==== Proof.lean ====
/-
# The claims

The kernel's run serves both of its frames, and over the extended reals the equation; the reference's run is generated.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Equation
public import Idealize.ShloMosaic.Lib.Quiescent

@[expose] public section

noncomputable section

namespace Cert.Proof

open Idealize.ShloMosaic Idealize.SL.Sem

/-- The idealized kernel terminates, keeps its arguments and leaves every counter at zero. -/
theorem frame_kernelIdeal : Cert.quiescent_KernelIdeal := fun m ρ _ =>
  (θ_run Cert.KernelIdeal.defs _ _).mono (fun _ h => ⟨fun c =>
    have a := (h.1 c).2
    ⟨a 0 (by decide), a 1 (by decide), a 2 (by decide), a 3 (by decide), a 4 (by decide), a 5 (by decide), a 6 (by decide)⟩, h.2⟩)
    (Cert.KernelIdealProof.run (F := Ideal) m ρ)

set_option maxRecDepth 20000 in
/-- The two programs call the same bodies. -/
theorem bodies_eq {F : FTy → Type} [FloatOps F] : Cert.Kernel.defs₀ (F := F) = Cert.KernelIdeal.defs₀ := by
  unfold Cert.Kernel.defs₀ Cert.KernelIdeal.defs₀
  refine congrArg _ ?_
  funext l a
  match l, a with
  | 0, (t, s) => rfl

/-- So their tables of bodies are one table. -/
theorem defs_eq {F : FTy → Type} [FloatOps F] : Cert.Kernel.defs (F := F) = Cert.KernelIdeal.defs := by
  unfold Cert.Kernel.defs Cert.KernelIdeal.defs
  rw [bodies_eq]
  rfl

/-- The kernel on its own floats terminates, keeps its arguments and leaves every counter at zero: it is the same program. -/
theorem frame_kernel : Cert.quiescent_Kernel := by
  intro m ρ _
  rw [defs_eq]
  exact (θ_run Cert.KernelIdeal.defs _ _).mono (fun _ h => ⟨fun c =>
    have a := (h.1 c).2
    ⟨a 0 (by decide), a 1 (by decide), a 2 (by decide), a 3 (by decide), a 4 (by decide), a 5 (by decide), a 6 (by decide)⟩, h.2⟩)
    (Cert.KernelIdealProof.run (F := Bits) m ρ)

/-- The reference terminates and keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices hold their blocks of the reference's arguments, they end with their blocks of its result. -/
theorem algebraic : Cert.algebraic_KernelIdeal_ReferenceIdeal := by
  intro m ρ m' ρ' _ hagree
  let X := m' (((0 : Dev Cert.ReferenceIdeal.nD).tc : Thread _ Cert.ReferenceIdeal.τ).loc Cert.ReferenceIdeal.main_arg0)
  let W : Fin 3 → FVec Ideal Cert.ReferenceIdeal.S256x512 .f32 := fun k => match k with
    | 0 => m' (((0 : Dev Cert.ReferenceIdeal.nD).tc : Thread _ Cert.ReferenceIdeal.τ).loc Cert.ReferenceIdeal.main_arg1)
    | 1 => m' (((0 : Dev Cert.ReferenceIdeal.nD).tc : Thread _ Cert.ReferenceIdeal.τ).loc Cert.ReferenceIdeal.main_arg3)
    | 2 => m' (((0 : Dev Cert.ReferenceIdeal.nD).tc : Thread _ Cert.ReferenceIdeal.τ).loc Cert.ReferenceIdeal.main_arg5)
  let O : Fin 3 → FVec Ideal Cert.ReferenceIdeal.S512x256 .f32 := fun k => match k with
    | 0 => m' (((0 : Dev Cert.ReferenceIdeal.nD).tc : Thread _ Cert.ReferenceIdeal.τ).loc Cert.ReferenceIdeal.main_arg2)
    | 1 => m' (((0 : Dev Cert.ReferenceIdeal.nD).tc : Thread _ Cert.ReferenceIdeal.τ).loc Cert.ReferenceIdeal.main_arg4)
    | 2 => m' (((0 : Dev Cert.ReferenceIdeal.nD).tc : Thread _ Cert.ReferenceIdeal.τ).loc Cert.ReferenceIdeal.main_arg6)
  have hX (c) : (Cert.KernelIdealProof.given m).x c = Cert.KernelIdealProof.actBlock X c := (hagree c).1
  have hW (k c) : (Cert.KernelIdealProof.given m).win k c = Cert.KernelIdealProof.winBlock (W k) c := match k with
    | 0 => (hagree c).2.1
    | 1 => (hagree c).2.2.2.1
    | 2 => (hagree c).2.2.2.2.2.1
  have hO (k c) : (Cert.KernelIdealProof.given m).wout k c = Cert.KernelIdealProof.woutBlock (O k) c := match k with
    | 0 => (hagree c).2.2.1
    | 1 => (hagree c).2.2.2.2.1
    | 2 => (hagree c).2.2.2.2.2.2
  refine ⟨Cert.ReferenceIdealProof.result X W O, ?_, ?_⟩
  · exact (θ_run Cert.KernelIdeal.defs _ _).mono (fun _ h c =>
      have a := (h.1 c).2
      ⟨(h.1 c).1.trans (Cert.KernelIdealProof.result_block _ X W O hX hW hO c),
        a 0 (by decide), a 1 (by decide), a 2 (by decide), a 3 (by decide), a 4 (by decide), a 5 (by decide), a 6 (by decide)⟩)
      (Cert.KernelIdealProof.run (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
